-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_float_range [hPre_float_range : Cert.Pre_float_range.Facts] (m : (ℓ : Loc Cert.KernelIdeal.nD Cert.KernelIdeal.τ Cert.KernelIdeal.sig) → Buf (Elt Ideal) ℓ) : Prop :=
  ∀ c : Dev Cert.KernelIdeal.nD,
    (Cert.Pre_float_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_float_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_float_range [hPre_float_range : Cert.Pre_float_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_float_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_float_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_float_range [hKernelIdeal : Cert.KernelIdeal.Facts] [hPre_float_range : Cert.Pre_float_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_float_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_float_range [hReferenceIdeal : Cert.ReferenceIdeal.Facts] [hPre_float_range : Cert.Pre_float_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_float_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_float_range [hKernelIdeal : Cert.KernelIdeal.Facts] [hReferenceIdeal : Cert.ReferenceIdeal.Facts] [hPre_float_range : Cert.Pre_float_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_float_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_float_range : Cert.Pre_float_range.Facts),
    quiescent_Kernel (hKernel := hKernel)
    ∧ quiescent_KernelIdeal (hKernelIdeal := hKernelIdeal)
    ∧ quiescent_KernelIdeal_pre_float_range (hKernelIdeal := hKernelIdeal) (hPre_float_range := hPre_float_range)
    ∧ quiescent_ReferenceIdeal (hReferenceIdeal := hReferenceIdeal)
    ∧ quiescent_ReferenceIdeal_pre_float_range (hReferenceIdeal := hReferenceIdeal) (hPre_float_range := hPre_float_range)
    ∧ preserves_Kernel_KernelIdeal
    ∧ algebraic_KernelIdeal_ReferenceIdeal_pre_float_range (hKernelIdeal := hKernelIdeal) (hReferenceIdeal := hReferenceIdeal) (hPre_float_range := hPre_float_range)
-- ==== Pre_float_range.lean ====
abbrev S4096x64x4 : Shape := ⟨3, ![4096, 64, 4]⟩
abbrev S100x256 : Shape := ⟨2, ![100, 256]⟩
abbrev S100 : Shape := ⟨1, ![100]⟩
abbrev S25x100 : Shape := ⟨2, ![25, 100]⟩
abbrev S25 : Shape := ⟨1, ![25]⟩
abbrev S16x25 : Shape := ⟨2, ![16, 25]⟩
abbrev S16 : Shape := ⟨1, ![16]⟩
abbrev S20x24 : Shape := ⟨2, ![20, 24]⟩
abbrev S20 : Shape := ⟨1, ![20]⟩
abbrev S10x20 : Shape := ⟨2, ![10, 20]⟩
abbrev S10 : Shape := ⟨1, ![10]⟩
abbrev S4x10 : Shape := ⟨2, ![4, 10]⟩
abbrev S4 : Shape := ⟨1, ![4]⟩
abbrev S4x4x4 : Shape := ⟨3, ![4, 4, 4]⟩
abbrev S4096x256 : Shape := ⟨2, ![4096, 256]⟩
abbrev S256x100 : Shape := ⟨2, ![256, 100]⟩
abbrev S4096x100 : Shape := ⟨2, ![4096, 100]⟩
abbrev S1x100 : Shape := ⟨2, ![1, 100]⟩
abbrev S_ : Shape := ⟨0, ![]⟩
abbrev S100x25 : Shape := ⟨2, ![100, 25]⟩
abbrev S4096x25 : Shape := ⟨2, ![4096, 25]⟩
abbrev S1x25 : Shape := ⟨2, ![1, 25]⟩
abbrev S25x16 : Shape := ⟨2, ![25, 16]⟩
abbrev S4096x16 : Shape := ⟨2, ![4096, 16]⟩
abbrev S1x16 : Shape := ⟨2, ![1, 16]⟩

class Facts : Prop where
  shapeCasts_S4096x64x4_S4096x256 : S4096x64x4.ShapeCasts S4096x256
  transposes_S100x256_S256x100_1_0 : S100x256.Transposes [1, 0] S256x100
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  bcast_S_S4096x100 : S_.BroadcastsInDim S4096x100 (![] : Fin 0 → Fin S4096x100.rank)
  transposes_S25x100_S100x25_1_0 : S25x100.Transposes [1, 0] S100x25
  bcast_S25_S1x25_1 : S25.BroadcastsInDim S1x25 (![1] : Fin 1 → Fin S1x25.rank)
  bcast_S1x25_S4096x25_0_1 : S1x25.BroadcastsInDim S4096x25 (![0, 1] : Fin 2 → Fin S4096x25.rank)
  bcast_S_S4096x25 : S_.BroadcastsInDim S4096x25 (![] : Fin 0 → Fin S4096x25.rank)
  transposes_S16x25_S25x16_1_0 : S16x25.Transposes [1, 0] S25x16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x16 : S_.BroadcastsInDim S4096x16 (![] : Fin 0 → Fin S4096x16.rank)
  bcast_S_S4x4x4 : S_.BroadcastsInDim S4x4x4 (![] : Fin 0 → Fin S4x4x4.rank)
  dot_S4096x256_S256x100_S4096x100_1_0_0_1_n_n_wf : DotDims.WF S4096x256 S256x100 S4096x100 [1] [0] [0] [1] [] []
  dot_S4096x100_S100x25_S4096x25_1_0_0_1_n_n_wf : DotDims.WF S4096x100 S100x25 S4096x25 [1] [0] [0] [1] [] []
  dot_S4096x25_S25x16_S4096x16_1_0_0_1_n_n_wf : DotDims.WF S4096x25 S25x16 S4096x16 [1] [0] [0] [1] [] []

variable [Facts]

def dot_S4096x256_S256x100_S4096x100_1_0_0_1_n_n : DotDims S4096x256 S256x100 S4096x100 where
  lhsContracting := [1]
  rhsContracting := [0]
  lhsNonContracting := [0]
  rhsNonContracting := [1]
  lhsBatch := []
  rhsBatch := []
  wf := dot_S4096x256_S256x100_S4096x100_1_0_0_1_n_n_wf
def dot_S4096x100_S100x25_S4096x25_1_0_0_1_n_n : DotDims S4096x100 S100x25 S4096x25 where
  lhsContracting := [1]
  rhsContracting := [0]
  lhsNonContracting := [0]
  rhsNonContracting := [1]
  lhsBatch := []
  rhsBatch := []
  wf := dot_S4096x100_S100x25_S4096x25_1_0_0_1_n_n_wf
def dot_S4096x25_S25x16_S4096x16_1_0_0_1_n_n : DotDims S4096x25 S25x16 S4096x16 where
  lhsContracting := [1]
  rhsContracting := [0]
  lhsNonContracting := [0]
  rhsNonContracting := [1]
  lhsBatch := []
  rhsBatch := []
  wf := dot_S4096x25_S25x16_S4096x16_1_0_0_1_n_n_wf
def fn_part1 {F : FTy → Type} [FloatOps F] (main_arg13 : FVec F S4x4x4 .f32) (main_v20 : FVec F S4096x16 .f32) (main_cst_1 : FVec F S_ .f32) : IVec S4096x16 1 × IVec S4x4x4 1 :=
  let main_v21 : FVec F S4096x16 .f32 := broadcastInDim S4096x16 ![] bcast_S_S4096x16 main_cst_1
  let main_v22 : IVec S4096x16 1 := cmpf .ole main_v20 main_v21
  let main_cst_2 : FVec F S_ .f32 := constant S_ .f32 0x7F800000#32
  let main_v23 : FVec F S4096x16 .f32 := broadcastInDim S4096x16 ![] bcast_S_S4096x16 main_cst_2
  let main_v24 : IVec S4096x16 1 := cmpf .oeq main_v20 main_v23
  let main_v25 : IVec S4096x16 1 := ori main_v22 main_v24
  let main_v26 : FVec F S4x4x4 .f32 := Host.absf main_arg13
  let main_cst_3 : FVec F S_ .f32 := constant S_ .f32 0x7F800000#32
  let main_v27 : FVec F S4x4x4 .f32 := broadcastInDim S4x4x4 ![] bcast_S_S4x4x4 main_cst_3
  let main_v28 : IVec S4x4x4 1 := cmpf .olt main_v26 main_v27
  (main_v25, main_v28)

def fn {F : FTy → Type} [FloatOps F] (main_arg0 : FVec F S4096x64x4 .f32) (main_arg1 : FVec F S100x256 .f32) (main_arg2 : FVec F S100 .f32) (main_arg3 : FVec F S25x100 .f32) (main_arg4 : FVec F S25 .f32) (main_arg5 : FVec F S16x25 .f32) (main_arg6 : FVec F S16 .f32) (main_arg7 : FVec F S20x24 .f32) (main_arg8 : FVec F S20 .f32) (main_arg9 : FVec F S10x20 .f32) (main_arg10 : FVec F S10 .f32) (main_arg11 : FVec F S4x10 .f32) (main_arg12 : FVec F S4 .f32) (main_arg13 : FVec F S4x4x4 .f32) : IVec S4096x16 1 × IVec S4x4x4 1 :=
  let main_v0 : FVec F S4096x256 .f32 := shapeCast S4096x256 main_arg0 shapeCasts_S4096x64x4_S4096x256
  let main_v1 : FVec F S256x100 .f32 := (transpose S256x100 [1, 0] · transposes_S100x256_S256x100_1_0) main_arg1
  let main_v2 : FVec F S4096x100 .f32 := (fun l r => Host.dotGeneral dot_S4096x256_S256x100_S4096x100_1_0_0_1_n_n none l r) main_v0 main_v1
  let main_v3 : FVec F S1x100 .f32 := broadcastInDim S1x100 ![1] bcast_S100_S1x100_1 main_arg2
  let main_v4 : FVec F S4096x100 .f32 := broadcastInDim S4096x100 ![0, 1] bcast_S1x100_S4096x100_0_1 main_v3
  let main_v5 : FVec F S4096x100 .f32 := addf main_v2 main_v4
  let main_cst : FVec F S_ .f32 := constant S_ .f32 0x00000000#32
  let main_v6 : FVec F S4096x100 .f32 := broadcastInDim S4096x100 ![] bcast_S_S4096x100 main_cst
  let main_v7 : FVec F S4096x100 .f32 := maximumf main_v5 main_v6
  let main_v8 : FVec F S100x25 .f32 := (transpose S100x25 [1, 0] · transposes_S25x100_S100x25_1_0) main_arg3
  let main_v9 : FVec F S4096x25 .f32 := (fun l r => Host.dotGeneral dot_S4096x100_S100x25_S4096x25_1_0_0_1_n_n none l r) main_v7 main_v8
  let main_v10 : FVec F S1x25 .f32 := broadcastInDim S1x25 ![1] bcast_S25_S1x25_1 main_arg4
  let main_v11 : FVec F S4096x25 .f32 := broadcastInDim S4096x25 ![0, 1] bcast_S1x25_S4096x25_0_1 main_v10
  let main_v12 : FVec F S4096x25 .f32 := addf main_v9 main_v11
  let main_cst_0 : FVec F S_ .f32 := constant S_ .f32 0x00000000#32
  let main_v13 : FVec F S4096x25 .f32 := broadcastInDim S4096x25 ![] bcast_S_S4096x25 main_cst_0
  let main_v14 : FVec F S4096x25 .f32 := maximumf main_v12 main_v13
  let main_v15 : FVec F S25x16 .f32 := (transpose S25x16 [1, 0] · transposes_S16x25_S25x16_1_0) main_arg5
  let main_v16 : FVec F S4096x16 .f32 := (fun l r => Host.dotGeneral dot_S4096x25_S25x16_S4096x16_1_0_0_1_n_n none l r) main_v14 main_v15
  let main_v17 : FVec F S1x16 .f32 := broadcastInDim S1x16 ![1] bcast_S16_S1x16_1 main_arg6
  let main_v18 : FVec F S4096x16 .f32 := broadcastInDim S4096x16 ![0, 1] bcast_S1x16_S4096x16_0_1 main_v17
  let main_v19 : FVec F S4096x16 .f32 := addf main_v16 main_v18
  let main_v20 : FVec F S4096x16 .f32 := Host.absf main_v19
  let main_cst_1 : FVec F S_ .f32 := constant S_ .f32 0x7F7FFFFF#32
  fn_part1 (F := F) main_arg13 main_v20 main_cst_1
-- ==== Kernel.lean ====
abbrev S4096x64x4 : Shape := ⟨3, ![4096, 64, 4]⟩
abbrev S100x256 : Shape := ⟨2, ![100, 256]⟩
abbrev S100 : Shape := ⟨1, ![100]⟩
abbrev S25x100 : Shape := ⟨2, ![25, 100]⟩
abbrev S25 : Shape := ⟨1, ![25]⟩
abbrev S16x25 : Shape := ⟨2, ![16, 25]⟩
abbrev S16 : Shape := ⟨1, ![16]⟩
abbrev S20x24 : Shape := ⟨2, ![20, 24]⟩
abbrev S20 : Shape := ⟨1, ![20]⟩
abbrev S10x20 : Shape := ⟨2, ![10, 20]⟩
abbrev S10 : Shape := ⟨1, ![10]⟩
abbrev S4x10 : Shape := ⟨2, ![4, 10]⟩
abbrev S4 : Shape := ⟨1, ![4]⟩
abbrev S4x4x4 : Shape := ⟨3, ![4, 4, 4]⟩
abbrev S4096x256 : Shape := ⟨2, ![4096, 256]⟩
abbrev S16x4 : Shape := ⟨2, ![16, 4]⟩
abbrev S1x16x1x4 : Shape := ⟨4, ![1, 16, 1, 4]⟩
abbrev S1x16x4x4 : Shape := ⟨4, ![1, 16, 4, 4]⟩
abbrev S16x16 : Shape := ⟨2, ![16, 16]⟩
abbrev S_ : Shape := ⟨0, ![]⟩
abbrev S4x1 : Shape := ⟨2, ![4, 1]⟩
abbrev S4x2 : Shape := ⟨2, ![4, 2]⟩
abbrev S4x4 : Shape := ⟨2, ![4, 4]⟩
abbrev S1x4x1x4 : Shape := ⟨4, ![1, 4, 1, 4]⟩
abbrev S1x4x4x4 : Shape := ⟨4, ![1, 4, 4, 4]⟩
abbrev S4x16 : Shape := ⟨2, ![4, 16]⟩
abbrev S16x32 : Shape := ⟨2, ![16, 32]⟩
abbrev S20x4x6 : Shape := ⟨3, ![20, 4, 6]⟩
abbrev S20x6x4 : Shape := ⟨3, ![20, 6, 4]⟩
abbrev S1x20 : Shape := ⟨2, ![1, 20]⟩
abbrev S4x20 : Shape := ⟨2, ![4, 20]⟩
abbrev S80 : Shape := ⟨1, ![80]⟩
abbrev S1x10 : Shape := ⟨2, ![1, 10]⟩
abbrev S40 : Shape := ⟨1, ![40]⟩
abbrev S1x4 : Shape := ⟨2, ![1, 4]⟩
abbrev S277 : Shape := ⟨1, ![277]⟩
abbrev S277x1 : Shape := ⟨2, ![277, 1]⟩
abbrev S4096x16 : Shape := ⟨2, ![4096, 16]⟩
abbrev S2048x256 : Shape := ⟨2, ![2048, 256]⟩
abbrev S2048x16 : Shape := ⟨2, ![2048, 16]⟩
abbrev S100x2048 : Shape := ⟨2, ![100, 2048]⟩
abbrev S100x1 : Shape := ⟨2, ![100, 1]⟩
abbrev S25x2048 : Shape := ⟨2, ![25, 2048]⟩
abbrev S25x1 : Shape := ⟨2, ![25, 1]⟩
abbrev S16x2048 : Shape := ⟨2, ![16, 2048]⟩
abbrev S16x1 : Shape := ⟨2, ![16, 1]⟩
abbrev S2048x4 : Shape := ⟨2, ![2048, 4]⟩
abbrev S4x2048 : Shape := ⟨2, ![4, 2048]⟩
abbrev S12x2048 : Shape := ⟨2, ![12, 2048]⟩
abbrev S96x2048 : Shape := ⟨2, ![96, 2048]⟩
abbrev S20x4 : Shape := ⟨2, ![20, 4]⟩
abbrev S20x16 : Shape := ⟨2, ![20, 16]⟩
abbrev S20x96 : Shape := ⟨2, ![20, 96]⟩
abbrev S80x96 : Shape := ⟨2, ![80, 96]⟩
abbrev S40x20 : Shape := ⟨2, ![40, 20]⟩
abbrev S40x80 : Shape := ⟨2, ![40, 80]⟩
abbrev S16x10 : Shape := ⟨2, ![16, 10]⟩
abbrev S16x40 : Shape := ⟨2, ![16, 40]⟩
abbrev S80x2048 : Shape := ⟨2, ![80, 2048]⟩
abbrev S80x1 : Shape := ⟨2, ![80, 1]⟩
abbrev S40x2048 : Shape := ⟨2, ![40, 2048]⟩
abbrev S40x1 : Shape := ⟨2, ![40, 1]⟩

abbrev nBuf : Space → Nat
  | .hbm => 152
  | .vmem => 12
  | .smem => 0
  | _ => 0

abbrev hbmTy0_0 (i : Nat) : BufTy := match i % 128 with
  | 0 => ⟨S4096x64x4, .f32⟩
  | 1 => ⟨S100x256, .f32⟩
  | 2 => ⟨S100, .f32⟩
  | 3 => ⟨S25x100, .f32⟩
  | 4 => ⟨S25, .f32⟩
  | 5 => ⟨S16x25, .f32⟩
  | 6 => ⟨S16, .f32⟩
  | 7 => ⟨S20x24, .f32⟩
  | 8 => ⟨S20, .f32⟩
  | 9 => ⟨S10x20, .f32⟩
  | 10 => ⟨S10, .f32⟩
  | 11 => ⟨S4x10, .f32⟩
  | 12 => ⟨S4, .f32⟩
  | 13 => ⟨S4x4x4, .f32⟩
  | 14 => ⟨S4096x256, .f32⟩
  | 15 => ⟨S4x4x4, .f32⟩
  | 16 => ⟨S16x4, .f32⟩
  | 17 => ⟨S1x16x1x4, .f32⟩
  | 18 => ⟨S1x16x4x4, .f32⟩
  | 19 => ⟨S16x16, .f32⟩
  | 20 => ⟨S16x16, .f32⟩
  | 21 => ⟨S4, .i32⟩
  | 22 => ⟨S_, .i32⟩
  | 23 => ⟨S4, .i32⟩
  | 24 => ⟨S4, .i32⟩
  | 25 => ⟨S_, .i32⟩
  | 26 => ⟨S4, .i32⟩
  | 27 => ⟨S4, .i32⟩
  | 28 => ⟨S_, .i32⟩
  | 29 => ⟨S4, .i32⟩
  | 30 => ⟨S4, .i32⟩
  | 31 => ⟨S_, .i32⟩
  | 32 => ⟨S4, .i32⟩
  | 33 => ⟨S4, .i32⟩
  | 34 => ⟨S_, .i32⟩
  | 35 => ⟨S4, .i32⟩
  | 36 => ⟨S4, .i32⟩
  | 37 => ⟨S_, .i32⟩
  | 38 => ⟨S4, .i32⟩
  | 39 => ⟨S4, .i32⟩
  | 40 => ⟨S_, .i32⟩
  | 41 => ⟨S4, .i32⟩
  | 42 => ⟨S4, .i32⟩
  | 43 => ⟨S_, .i32⟩
  | 44 => ⟨S4, .i32⟩
  | 45 => ⟨S4, .i32⟩
  | 46 => ⟨S_, .i32⟩
  | 47 => ⟨S4, .i32⟩
  | 48 => ⟨S4, .i1⟩
  | 49 => ⟨S_, .i32⟩
  | 50 => ⟨S4, .i32⟩
  | 51 => ⟨S4, .i32⟩
  | 52 => ⟨S4, .i32⟩
  | 53 => ⟨S_, .i32⟩
  | 54 => ⟨S4, .i32⟩
  | 55 => ⟨S4, .i1⟩
  | 56 => ⟨S_, .i32⟩
  | 57 => ⟨S4, .i32⟩
  | 58 => ⟨S4, .i32⟩
  | 59 => ⟨S4, .i32⟩
  | 60 => ⟨S4x1, .i32⟩
  | 61 => ⟨S4x1, .i32⟩
  | 62 => ⟨S4x2, .i32⟩
  | 63 => ⟨S4x4, .f32⟩
  | 64 => ⟨S4x4, .f32⟩
  | 65 => ⟨S1x4x1x4, .f32⟩
  | 66 => ⟨S1x4x4x4, .f32⟩
  | 67 => ⟨S4x16, .f32⟩
  | 68 => ⟨S_, .i32⟩
  | 69 => ⟨S4, .i32⟩
  | 70 => ⟨S4, .i1⟩
  | 71 => ⟨S_, .i32⟩
  | 72 => ⟨S4, .i32⟩
  | 73 => ⟨S4, .i32⟩
  | 74 => ⟨S4, .i32⟩
  | 75 => ⟨S_, .i32⟩
  | 76 => ⟨S4, .i32⟩
  | 77 => ⟨S4, .i1⟩
  | 78 => ⟨S_, .i32⟩
  | 79 => ⟨S4, .i32⟩
  | 80 => ⟨S4, .i32⟩
  | 81 => ⟨S4, .i32⟩
  | 82 => ⟨S4x1, .i32⟩
  | 83 => ⟨S4x1, .i32⟩
  | 84 => ⟨S4x2, .i32⟩
  | 85 => ⟨S4x4, .f32⟩
  | 86 => ⟨S4x4, .f32⟩
  | 87 => ⟨S1x4x1x4, .f32⟩
  | 88 => ⟨S1x4x4x4, .f32⟩
  | 89 => ⟨S4x16, .f32⟩
  | 90 => ⟨S_, .i32⟩
  | 91 => ⟨S4, .i32⟩
  | 92 => ⟨S4, .i1⟩
  | 93 => ⟨S_, .i32⟩
  | 94 => ⟨S4, .i32⟩
  | 95 => ⟨S4, .i32⟩
  | 96 => ⟨S4, .i32⟩
  | 97 => ⟨S_, .i32⟩
  | 98 => ⟨S4, .i32⟩
  | 99 => ⟨S4, .i1⟩
  | 100 => ⟨S_, .i32⟩
  | 101 => ⟨S4, .i32⟩
  | 102 => ⟨S4, .i32⟩
  | 103 => ⟨S4, .i32⟩
  | 104 => ⟨S4x1, .i32⟩
  | 105 => ⟨S4x1, .i32⟩
  | 106 => ⟨S4x2, .i32⟩
  | 107 => ⟨S4x4, .f32⟩
  | 108 => ⟨S4x4, .f32⟩
  | 109 => ⟨S1x4x1x4, .f32⟩
  | 110 => ⟨S1x4x4x4, .f32⟩
  | 111 => ⟨S4x16, .f32⟩
  | 112 => ⟨S_, .i32⟩
  | 113 => ⟨S4, .i32⟩
  | 114 => ⟨S4, .i1⟩
  | 115 => ⟨S_, .i32⟩
  | 116 => ⟨S4, .i32⟩
  | 117 => ⟨S4, .i32⟩
  | 118 => ⟨S4, .i32⟩
  | 119 => ⟨S_, .i32⟩
  | 120 => ⟨S4, .i32⟩
  | 121 => ⟨S4, .i1⟩
  | 122 => ⟨S_, .i32⟩
  | 123 => ⟨S4, .i32⟩
  | 124 => ⟨S4, .i32⟩
  | 125 => ⟨S4, .i32⟩
  | 126 => ⟨S4x1, .i32⟩
  | 127 => ⟨S4x1, .i32⟩
  | _ => ⟨S4096x64x4, .f32⟩

abbrev hbmTy0_1 (i : Nat) : BufTy := match i % 128 with
  | 0 => ⟨S4x2, .i32⟩
  | 1 => ⟨S4x4, .f32⟩
  | 2 => ⟨S4x4, .f32⟩
  | 3 => ⟨S1x4x1x4, .f32⟩
  | 4 => ⟨S1x4x4x4, .f32⟩
  | 5 => ⟨S4x16, .f32⟩
  | 6 => ⟨S16x16, .f32⟩
  | 7 => ⟨S16x16, .f32⟩
  | 8 => ⟨S16x32, .f32⟩
  | 9 => ⟨S20x4x6, .f32⟩
  | 10 => ⟨S20x6x4, .f32⟩
  | 11 => ⟨S20x24, .f32⟩
  | 12 => ⟨S1x20, .f32⟩
  | 13 => ⟨S4x20, .f32⟩
  | 14 => ⟨S80, .f32⟩
  | 15 => ⟨S1x10, .f32⟩
  | 16 => ⟨S4x10, .f32⟩
  | 17 => ⟨S40, .f32⟩
  | 18 => ⟨S1x4, .f32⟩
  | 19 => ⟨S4x4, .f32⟩
  | 20 => ⟨S16, .f32⟩
  | 21 => ⟨S277, .f32⟩
  | 22 => ⟨S277x1, .f32⟩
  | 23 => ⟨S4096x16, .f32⟩
  | _ => ⟨S4096x64x4, .f32⟩

abbrev hbmTy (i : Nat) : BufTy := match i / 128 with
  | 0 => hbmTy0_0 i
  | 1 => hbmTy0_1 i
  | _ => ⟨S4096x64x4, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S100x256, .f32⟩
  | .local _ .vmem, ⟨3, _⟩ => ⟨S25x100, .f32⟩
  | .local _ .vmem, ⟨4, _⟩ => ⟨S16x25, .f32⟩
  | .local _ .vmem, ⟨5, _⟩ => ⟨S20x24, .f32⟩
  | .local _ .vmem, ⟨6, _⟩ => ⟨S10x20, .f32⟩
  | .local _ .vmem, ⟨7, _⟩ => ⟨S4x10, .f32⟩
  | .local _ .vmem, ⟨8, _⟩ => ⟨S277x1, .f32⟩
  | .local _ .vmem, ⟨9, _⟩ => ⟨S16x32, .f32⟩
  | .local _ .vmem, ⟨10, _⟩ => ⟨S2048x16, .f32⟩
  | .local _ .vmem, ⟨11, _⟩ => ⟨S2048x16, .f32⟩
  | _, _ => ⟨S4096x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_c_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_9 : Ref sig .tc := ⟨.hbm, 53, rfl⟩
abbrev main_v29 : Ref sig .tc := ⟨.hbm, 54, rfl⟩
abbrev main_v30 : Ref sig .tc := ⟨.hbm, 55, rfl⟩
abbrev main_c_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_13 : Ref sig .tc := ⟨.hbm, 75, rfl⟩
abbrev main_v47 : Ref sig .tc := ⟨.hbm, 76, rfl⟩
abbrev main_v48 : Ref sig .tc := ⟨.hbm, 77, rfl⟩
abbrev main_c_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_15 : Ref sig .tc := ⟨.hbm, 90, rfl⟩
abbrev main_v60 : Ref sig .tc := ⟨.hbm, 91, rfl⟩
abbrev main_v61 : Ref sig .tc := ⟨.hbm, 92, rfl⟩
abbrev main_c_16 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_19 : Ref sig .tc := ⟨.hbm, 112, rfl⟩
abbrev main_v78 : Ref sig .tc := ⟨.hbm, 113, rfl⟩
abbrev main_v79 : Ref sig .tc := ⟨.hbm, 114, rfl⟩
abbrev main_c_20 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_21 : Ref sig .tc := ⟨.hbm, 119, rfl⟩
abbrev main_v83 : Ref sig .tc := ⟨.hbm, 120, rfl⟩
abbrev main_v84 : Ref sig .tc := ⟨.hbm, 121, rfl⟩
abbrev main_c_22 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S25x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x25 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S277x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x64x4 : Shape := ⟨3, ![4096, 64, 4]⟩
abbrev S100x256 : Shape := ⟨2, ![100, 256]⟩
abbrev S100 : Shape := ⟨1, ![100]⟩
abbrev S25x100 : Shape := ⟨2, ![25, 100]⟩
abbrev S25 : Shape := ⟨1, ![25]⟩
abbrev S16x25 : Shape := ⟨2, ![16, 25]⟩
abbrev S16 : Shape := ⟨1, ![16]⟩
abbrev S20x24 : Shape := ⟨2, ![20, 24]⟩
abbrev S20 : Shape := ⟨1, ![20]⟩
abbrev S10x20 : Shape := ⟨2, ![10, 20]⟩
abbrev S10 : Shape := ⟨1, ![10]⟩
abbrev S4x10 : Shape := ⟨2, ![4, 10]⟩
abbrev S4 : Shape := ⟨1, ![4]⟩
abbrev S4x4x4 : Shape := ⟨3, ![4, 4, 4]⟩
abbrev S4096x256 : Shape := ⟨2, ![4096, 256]⟩
abbrev S256x100 : Shape := ⟨2, ![256, 100]⟩
abbrev S4096x100 : Shape := ⟨2, ![4096, 100]⟩
abbrev S1x100 : Shape := ⟨2, ![1, 100]⟩
abbrev S_ : Shape := ⟨0, ![]⟩
abbrev S100x25 : Shape := ⟨2, ![100, 25]⟩
abbrev S4096x25 : Shape := ⟨2, ![4096, 25]⟩
abbrev S1x25 : Shape := ⟨2, ![1, 25]⟩
abbrev S25x16 : Shape := ⟨2, ![25, 16]⟩
abbrev S4096x16 : Shape := ⟨2, ![4096, 16]⟩
abbrev S1x16 : Shape := ⟨2, ![1, 16]⟩
abbrev S4096x4x4 : Shape := ⟨3, ![4096, 4, 4]⟩
abbrev S4096x1x4 : Shape := ⟨3, ![4096, 1, 4]⟩
abbrev S4096x3x4 : Shape := ⟨3, ![4096, 3, 4]⟩
abbrev S1x1x4 : Shape := ⟨3, ![1, 1, 4]⟩
abbrev S4096x4x4x1 : Shape := ⟨4, ![4096, 4, 4, 1]⟩
abbrev S4096x4x4x3 : Shape := ⟨4, ![4096, 4, 4, 3]⟩
abbrev S4096x4x4x6 : Shape := ⟨4, ![4096, 4, 4, 6]⟩
abbrev S4096x4x24 : Shape := ⟨3, ![4096, 4, 24]⟩
abbrev S24x20 : Shape := ⟨2, ![24, 20]⟩
abbrev S4096x4x20 : Shape := ⟨3, ![4096, 4, 20]⟩
abbrev S1x1x20 : Shape := ⟨3, ![1, 1, 20]⟩
abbrev S20x10 : Shape := ⟨2, ![20, 10]⟩
abbrev S4096x4x10 : Shape := ⟨3, ![4096, 4, 10]⟩
abbrev S1x1x10 : Shape := ⟨3, ![1, 1, 10]⟩
abbrev S10x4 : Shape := ⟨2, ![10, 4]⟩

abbrev nBuf : Space → Nat
  | .hbm => 283
  | .vmem => 0
  | .smem => 0
  | _ => 0

abbrev hbmTy0_0 (i : Nat) : BufTy := match i % 128 with
  | 0 => ⟨S4096x64x4, .f32⟩
  | 1 => ⟨S100x256, .f32⟩
  | 2 => ⟨S100, .f32⟩
  | 3 => ⟨S25x100, .f32⟩
  | 4 => ⟨S25, .f32⟩
  | 5 => ⟨S16x25, .f32⟩
  | 6 => ⟨S16, .f32⟩
  | 7 => ⟨S20x24, .f32⟩
  | 8 => ⟨S20, .f32⟩
  | 9 => ⟨S10x20, .f32⟩
  | 10 => ⟨S10, .f32⟩
  | 11 => ⟨S4x10, .f32⟩
  | 12 => ⟨S4, .f32⟩
  | 13 => ⟨S4x4x4, .f32⟩
  | 14 => ⟨S4096x256, .f32⟩
  | 15 => ⟨S256x100, .f32⟩
  | 16 => ⟨S4096x100, .f32⟩
  | 17 => ⟨S1x100, .f32⟩
  | 18 => ⟨S4096x100, .f32⟩
  | 19 => ⟨S4096x100, .f32⟩
  | 20 => ⟨S_, .f32⟩
  | 21 => ⟨S4096x100, .f32⟩
  | 22 => ⟨S4096x100, .f32⟩
  | 23 => ⟨S100x25, .f32⟩
  | 24 => ⟨S4096x25, .f32⟩
  | 25 => ⟨S1x25, .f32⟩
  | 26 => ⟨S4096x25, .f32⟩
  | 27 => ⟨S4096x25, .f32⟩
  | 28 => ⟨S_, .f32⟩
  | 29 => ⟨S4096x25, .f32⟩
  | 30 => ⟨S4096x25, .f32⟩
  | 31 => ⟨S25x16, .f32⟩
  | 32 => ⟨S4096x16, .f32⟩
  | 33 => ⟨S1x16, .f32⟩
  | 34 => ⟨S4096x16, .f32⟩
  | 35 => ⟨S4096x16, .f32⟩
  | 36 => ⟨S4096x4x4, .f32⟩
  | 37 => ⟨S4096x1x4, .f32⟩
  | 38 => ⟨S4096x3x4, .f32⟩
  | 39 => ⟨S4096x4x4, .f32⟩
  | 40 => ⟨S_, .f32⟩
  | 41 => ⟨S4096x4x4, .f32⟩
  | 42 => ⟨S4096x4x4, .f32⟩
  | 43 => ⟨S_, .f32⟩
  | 44 => ⟨S4096x4x4, .f32⟩
  | 45 => ⟨S4096x4x4, .f32⟩
  | 46 => ⟨S4096x4x4, .f32⟩
  | 47 => ⟨S_, .i32⟩
  | 48 => ⟨S_, .i32⟩
  | 49 => ⟨S_, .f32⟩
  | 50 => ⟨S4096x4x4, .f32⟩
  | 51 => ⟨S4096x4x4, .f32⟩
  | 52 => ⟨S_, .f32⟩
  | 53 => ⟨S4096x4x4, .f32⟩
  | 54 => ⟨S4096x4x4, .f32⟩
  | 55 => ⟨S_, .f32⟩
  | 56 => ⟨S4096x4x4, .f32⟩
  | 57 => ⟨S4096x4x4, .f32⟩
  | 58 => ⟨S_, .f32⟩
  | 59 => ⟨S4096x4x4, .f32⟩
  | 60 => ⟨S4096x4x4, .f32⟩
  | 61 => ⟨S4096x4x4, .f32⟩
  | 62 => ⟨S_, .i32⟩
  | 63 => ⟨S_, .i32⟩
  | 64 => ⟨S_, .f32⟩
  | 65 => ⟨S4096x4x4, .f32⟩
  | 66 => ⟨S4096x4x4, .f32⟩
  | 67 => ⟨S_, .f32⟩
  | 68 => ⟨S4096x4x4, .f32⟩
  | 69 => ⟨S4096x4x4, .f32⟩
  | 70 => ⟨S_, .f32⟩
  | 71 => ⟨S4096x4x4, .f32⟩
  | 72 => ⟨S4096x4x4, .f32⟩
  | 73 => ⟨S_, .f32⟩
  | 74 => ⟨S4096x4x4, .f32⟩
  | 75 => ⟨S4096x4x4, .f32⟩
  | 76 => ⟨S_, .f32⟩
  | 77 => ⟨S4096x4x4, .f32⟩
  | 78 => ⟨S4096x4x4, .f32⟩
  | 79 => ⟨S_, .f32⟩
  | 80 => ⟨S4096x4x4, .f32⟩
  | 81 => ⟨S4096x4x4, .f32⟩
  | 82 => ⟨S_, .f32⟩
  | 83 => ⟨S4096x4x4, .f32⟩
  | 84 => ⟨S4096x4x4, .f32⟩
  | 85 => ⟨S_, .f32⟩
  | 86 => ⟨S4096x4x4, .f32⟩
  | 87 => ⟨S4096x4x4, .f32⟩
  | 88 => ⟨S_, .f32⟩
  | 89 => ⟨S4096x4x4, .f32⟩
  | 90 => ⟨S4096x4x4, .f32⟩
  | 91 => ⟨S_, .f32⟩
  | 92 => ⟨S4096x4x4, .f32⟩
  | 93 => ⟨S4096x4x4, .f32⟩
  | 94 => ⟨S4, .i32⟩
  | 95 => ⟨S1x1x4, .i32⟩
  | 96 => ⟨S4096x4x4, .i32⟩
  | 97 => ⟨S4096x4x4, .i32⟩
  | 98 => ⟨S_, .i32⟩
  | 99 => ⟨S1x1x4, .i32⟩
  | 100 => ⟨S1x1x4, .i1⟩
  | 101 => ⟨S_, .i32⟩
  | 102 => ⟨S1x1x4, .i32⟩
  | 103 => ⟨S1x1x4, .i32⟩
  | 104 => ⟨S1x1x4, .i32⟩
  | 105 => ⟨S_, .i32⟩
  | 106 => ⟨S4096x4x4, .i32⟩
  | 107 => ⟨S4096x4x4, .i1⟩
  | 108 => ⟨S_, .i32⟩
  | 109 => ⟨S4096x4x4, .i32⟩
  | 110 => ⟨S4096x4x4, .i32⟩
  | 111 => ⟨S4096x4x4, .i32⟩
  | 112 => ⟨S_, .i32⟩
  | 113 => ⟨S4096x4x4, .i32⟩
  | 114 => ⟨S4096x4x4, .i1⟩
  | 115 => ⟨S_, .i32⟩
  | 116 => ⟨S4096x4x4, .i32⟩
  | 117 => ⟨S4096x4x4, .i32⟩
  | 118 => ⟨S4096x4x4, .i32⟩
  | 119 => ⟨S4096x4x4, .i32⟩
  | 120 => ⟨S4096x4x4x1, .i32⟩
  | 121 => ⟨S4096x4x4x1, .i32⟩
  | 122 => ⟨S4096x4x4x1, .i32⟩
  | 123 => ⟨S4096x4x4x3, .i32⟩
  | 124 => ⟨S4096x4x4, .f32⟩
  | 125 => ⟨S4096x4x4, .i32⟩
  | 126 => ⟨S_, .i32⟩
  | 127 => ⟨S1x1x4, .i32⟩
  | _ => ⟨S4096x64x4, .f32⟩

abbrev hbmTy0_1 (i : Nat) : BufTy := match i % 128 with
  | 0 => ⟨S1x1x4, .i1⟩
  | 1 => ⟨S_, .i32⟩
  | 2 => ⟨S1x1x4, .i32⟩
  | 3 => ⟨S1x1x4, .i32⟩
  | 4 => ⟨S1x1x4, .i32⟩
  | 5 => ⟨S_, .i32⟩
  | 6 => ⟨S4096x4x4, .i32⟩
  | 7 => ⟨S4096x4x4, .i1⟩
  | 8 => ⟨S_, .i32⟩
  | 9 => ⟨S4096x4x4, .i32⟩
  | 10 => ⟨S4096x4x4, .i32⟩
  | 11 => ⟨S4096x4x4, .i32⟩
  | 12 => ⟨S_, .i32⟩
  | 13 => ⟨S4096x4x4, .i32⟩
  | 14 => ⟨S4096x4x4, .i1⟩
  | 15 => ⟨S_, .i32⟩
  | 16 => ⟨S4096x4x4, .i32⟩
  | 17 => ⟨S4096x4x4, .i32⟩
  | 18 => ⟨S4096x4x4, .i32⟩
  | 19 => ⟨S4096x4x4, .i32⟩
  | 20 => ⟨S4096x4x4x1, .i32⟩
  | 21 => ⟨S4096x4x4x1, .i32⟩
  | 22 => ⟨S4096x4x4x1, .i32⟩
  | 23 => ⟨S4096x4x4x3, .i32⟩
  | 24 => ⟨S4096x4x4, .f32⟩
  | 25 => ⟨S4096x4x4, .i32⟩
  | 26 => ⟨S_, .i32⟩
  | 27 => ⟨S1x1x4, .i32⟩
  | 28 => ⟨S1x1x4, .i1⟩
  | 29 => ⟨S_, .i32⟩
  | 30 => ⟨S1x1x4, .i32⟩
  | 31 => ⟨S1x1x4, .i32⟩
  | 32 => ⟨S1x1x4, .i32⟩
  | 33 => ⟨S_, .i32⟩
  | 34 => ⟨S4096x4x4, .i32⟩
  | 35 => ⟨S4096x4x4, .i1⟩
  | 36 => ⟨S_, .i32⟩
  | 37 => ⟨S4096x4x4, .i32⟩
  | 38 => ⟨S4096x4x4, .i32⟩
  | 39 => ⟨S4096x4x4, .i32⟩
  | 40 => ⟨S_, .i32⟩
  | 41 => ⟨S4096x4x4, .i32⟩
  | 42 => ⟨S4096x4x4, .i1⟩
  | 43 => ⟨S_, .i32⟩
  | 44 => ⟨S4096x4x4, .i32⟩
  | 45 => ⟨S4096x4x4, .i32⟩
  | 46 => ⟨S4096x4x4, .i32⟩
  | 47 => ⟨S4096x4x4, .i32⟩
  | 48 => ⟨S4096x4x4x1, .i32⟩
  | 49 => ⟨S4096x4x4x1, .i32⟩
  | 50 => ⟨S4096x4x4x1, .i32⟩
  | 51 => ⟨S4096x4x4x3, .i32⟩
  | 52 => ⟨S4096x4x4, .f32⟩
  | 53 => ⟨S4096x4x4, .i32⟩
  | 54 => ⟨S_, .i32⟩
  | 55 => ⟨S1x1x4, .i32⟩
  | 56 => ⟨S1x1x4, .i1⟩
  | 57 => ⟨S_, .i32⟩
  | 58 => ⟨S1x1x4, .i32⟩
  | 59 => ⟨S1x1x4, .i32⟩
  | 60 => ⟨S1x1x4, .i32⟩
  | 61 => ⟨S_, .i32⟩
  | 62 => ⟨S4096x4x4, .i32⟩
  | 63 => ⟨S4096x4x4, .i1⟩
  | 64 => ⟨S_, .i32⟩
  | 65 => ⟨S4096x4x4, .i32⟩
  | 66 => ⟨S4096x4x4, .i32⟩
  | 67 => ⟨S4096x4x4, .i32⟩
  | 68 => ⟨S_, .i32⟩
  | 69 => ⟨S4096x4x4, .i32⟩
  | 70 => ⟨S4096x4x4, .i1⟩
  | 71 => ⟨S_, .i32⟩
  | 72 => ⟨S4096x4x4, .i32⟩
  | 73 => ⟨S4096x4x4, .i32⟩
  | 74 => ⟨S4096x4x4, .i32⟩
  | 75 => ⟨S4096x4x4, .i32⟩
  | 76 => ⟨S4096x4x4x1, .i32⟩
  | 77 => ⟨S4096x4x4x1, .i32⟩
  | 78 => ⟨S4096x4x4x1, .i32⟩
  | 79 => ⟨S4096x4x4x3, .i32⟩
  | 80 => ⟨S4096x4x4, .f32⟩
  | 81 => ⟨S4096x4x4, .i32⟩
  | 82 => ⟨S_, .i32⟩
  | 83 => ⟨S1x1x4, .i32⟩
  | 84 => ⟨S1x1x4, .i1⟩
  | 85 => ⟨S_, .i32⟩
  | 86 => ⟨S1x1x4, .i32⟩
  | 87 => ⟨S1x1x4, .i32⟩
  | 88 => ⟨S1x1x4, .i32⟩
  | 89 => ⟨S_, .i32⟩
  | 90 => ⟨S4096x4x4, .i32⟩
  | 91 => ⟨S4096x4x4, .i1⟩
  | 92 => ⟨S_, .i32⟩
  | 93 => ⟨S4096x4x4, .i32⟩
  | 94 => ⟨S4096x4x4, .i32⟩
  | 95 => ⟨S4096x4x4, .i32⟩
  | 96 => ⟨S_, .i32⟩
  | 97 => ⟨S4096x4x4, .i32⟩
  | 98 => ⟨S4096x4x4, .i1⟩
  | 99 => ⟨S_, .i32⟩
  | 100 => ⟨S4096x4x4, .i32⟩
  | 101 => ⟨S4096x4x4, .i32⟩
  | 102 => ⟨S4096x4x4, .i32⟩
  | 103 => ⟨S4096x4x4, .i32⟩
  | 104 => ⟨S4096x4x4x1, .i32⟩
  | 105 => ⟨S4096x4x4x1, .i32⟩
  | 106 => ⟨S4096x4x4x1, .i32⟩
  | 107 => ⟨S4096x4x4x3, .i32⟩
  | 108 => ⟨S4096x4x4, .f32⟩
  | 109 => ⟨S4096x4x4x1, .f32⟩
  | 110 => ⟨S4096x4x4x1, .f32⟩
  | 111 => ⟨S4096x4x4x1, .f32⟩
  | 112 => ⟨S4096x4x4x1, .f32⟩
  | 113 => ⟨S4096x4x4x1, .f32⟩
  | 114 => ⟨S4096x4x4x1, .f32⟩
  | 115 => ⟨S4096x4x4x6, .f32⟩
  | 116 => ⟨S4096x4x24, .f32⟩
  | 117 => ⟨S4096x4x24, .i1⟩
  | 118 => ⟨S_, .f32⟩
  | 119 => ⟨S4096x4x24, .f32⟩
  | 120 => ⟨S4096x4x24, .f32⟩
  | 121 => ⟨S_, .f32⟩
  | 122 => ⟨S4096x4x24, .f32⟩
  | 123 => ⟨S4096x4x24, .i1⟩
  | 124 => ⟨S_, .f32⟩
  | 125 => ⟨S4096x4x24, .f32⟩
  | 126 => ⟨S4096x4x24, .f32⟩
  | 127 => ⟨S_, .f32⟩
  | _ => ⟨S4096x64x4, .f32⟩

abbrev hbmTy0_2 (i : Nat) : BufTy := match i % 128 with
  | 0 => ⟨S4096x4x24, .f32⟩
  | 1 => ⟨S4096x4x24, .i1⟩
  | 2 => ⟨S_, .f32⟩
  | 3 => ⟨S4096x4x24, .f32⟩
  | 4 => ⟨S4096x4x24, .f32⟩
  | 5 => ⟨S24x20, .f32⟩
  | 6 => ⟨S4096x4x20, .f32⟩
  | 7 => ⟨S1x1x20, .f32⟩
  | 8 => ⟨S4096x4x20, .f32⟩
  | 9 => ⟨S4096x4x20, .f32⟩
  | 10 => ⟨S_, .f32⟩
  | 11 => ⟨S4096x4x20, .f32⟩
  | 12 => ⟨S4096x4x20, .f32⟩
  | 13 => ⟨S20x10, .f32⟩
  | 14 => ⟨S4096x4x10, .f32⟩
  | 15 => ⟨S1x1x10, .f32⟩
  | 16 => ⟨S4096x4x10, .f32⟩
  | 17 => ⟨S4096x4x10, .f32⟩
  | 18 => ⟨S_, .f32⟩
  | 19 => ⟨S4096x4x10, .f32⟩
  | 20 => ⟨S4096x4x10, .f32⟩
  | 21 => ⟨S10x4, .f32⟩
  | 22 => ⟨S4096x4x4, .f32⟩
  | 23 => ⟨S1x1x4, .f32⟩
  | 24 => ⟨S4096x4x4, .f32⟩
  | 25 => ⟨S4096x4x4, .f32⟩
  | 26 => ⟨S4096x16, .f32⟩
  | _ => ⟨S4096x64x4, .f32⟩

abbrev hbmTy (i : Nat) : BufTy := match i / 128 with
  | 0 => hbmTy0_0 i
  | 1 => hbmTy0_1 i
  | 2 => hbmTy0_2 i
  | _ => ⟨S4096x64x4, .f32⟩

abbrev bufTy : (tb : Table) → Fin (tcTables nBuf tb) → BufTy
  | .hbm, ⟨i, _⟩ => hbmTy i
  | _, _ => ⟨S4096x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_cst : Ref sig .tc := ⟨.hbm, 28, rfl⟩
abbrev main_call1_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c : Ref sig .tc := ⟨.hbm, 47, rfl⟩
abbrev main_c_1 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_4 : Ref sig .tc := ⟨.hbm, 62, rfl⟩
abbrev main_c_5 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_v33 : Ref sig .tc := ⟨.hbm, 69, rfl⟩
abbrev main_cst_6 : Ref sig .tc := ⟨.hbm, 70, rfl⟩
abbrev main_v34 : Ref sig .tc := ⟨.hbm, 71, rfl⟩
abbrev main_v35 : Ref sig .tc := ⟨.hbm, 72, rfl⟩
abbrev main_cst_7 : Ref sig .tc := ⟨.hbm, 73, rfl⟩
abbrev main_v36 : Ref sig .tc := ⟨.hbm, 74, rfl⟩
abbrev main_v37 : Ref sig .tc := ⟨.hbm, 75, rfl⟩
abbrev main_cst_8 : Ref sig .tc := ⟨.hbm, 76, rfl⟩
abbrev main_v38 : Ref sig .tc := ⟨.hbm, 77, rfl⟩
abbrev main_v39 : Ref sig .tc := ⟨.hbm, 78, rfl⟩
abbrev main_cst_9 : Ref sig .tc := ⟨.hbm, 79, rfl⟩
abbrev main_v40 : Ref sig .tc := ⟨.hbm, 80, rfl⟩
abbrev main_v41 : Ref sig .tc := ⟨.hbm, 81, rfl⟩
abbrev main_cst_10 : Ref sig .tc := ⟨.hbm, 82, rfl⟩
abbrev main_v42 : Ref sig .tc := ⟨.hbm, 83, rfl⟩
abbrev main_v43 : Ref sig .tc := ⟨.hbm, 84, rfl⟩
abbrev main_cst_11 : Ref sig .tc := ⟨.hbm, 85, rfl⟩
abbrev main_v44 : Ref sig .tc := ⟨.hbm, 86, rfl⟩
abbrev main_v45 : Ref sig .tc := ⟨.hbm, 87, rfl⟩
abbrev main_cst_12 : Ref sig .tc := ⟨.hbm, 88, rfl⟩
abbrev main_v46 : Ref sig .tc := ⟨.hbm, 89, rfl⟩
abbrev main_v47 : Ref sig .tc := ⟨.hbm, 90, rfl⟩
abbrev main_cst_13 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_14 : Ref sig .tc := ⟨.hbm, 98, rfl⟩
abbrev main_v54 : Ref sig .tc := ⟨.hbm, 99, rfl⟩
abbrev main_v55 : Ref sig .tc := ⟨.hbm, 100, rfl⟩
abbrev main_c_15 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_16 : Ref sig .tc := ⟨.hbm, 105, rfl⟩
abbrev main_v59 : Ref sig .tc := ⟨.hbm, 106, rfl⟩
abbrev main_v60 : Ref sig .tc := ⟨.hbm, 107, rfl⟩
abbrev main_c_17 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_18 : Ref sig .tc := ⟨.hbm, 112, rfl⟩
abbrev main_v64 : Ref sig .tc := ⟨.hbm, 113, rfl⟩
abbrev main_v65 : Ref sig .tc := ⟨.hbm, 114, rfl⟩
abbrev main_c_19 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_20 : Ref sig .tc := ⟨.hbm, 126, rfl⟩
abbrev main_v76 : Ref sig .tc := ⟨.hbm, 127, rfl⟩
abbrev main_v77 : Ref sig .tc := ⟨.hbm, 128, rfl⟩
abbrev main_c_21 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_22 : Ref sig .tc := ⟨.hbm, 133, rfl⟩
abbrev main_v81 : Ref sig .tc := ⟨.hbm, 134, rfl⟩
abbrev main_v82 : Ref sig .tc := ⟨.hbm, 135, rfl⟩
abbrev main_c_23 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_24 : Ref sig .tc := ⟨.hbm, 140, rfl⟩
abbrev main_v86 : Ref sig .tc := ⟨.hbm, 141, rfl⟩
abbrev main_v87 : Ref sig .tc := ⟨.hbm, 142, rfl⟩
abbrev main_c_25 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_c_26 : Ref sig .tc := ⟨.hbm, 154, rfl⟩
abbrev main_v98 : Ref sig .tc := ⟨.hbm, 155, rfl⟩
abbrev main_v99 : Ref sig .tc := ⟨.hbm, 156, rfl⟩
abbrev main_c_27 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_c_28 : Ref sig .tc := ⟨.hbm, 161, rfl⟩
abbrev main_v103 : Ref sig .tc := ⟨.hbm, 162, rfl⟩
abbrev main_v104 : Ref sig .tc := ⟨.hbm, 163, rfl⟩
abbrev main_c_29 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_c_30 : Ref sig .tc := ⟨.hbm, 168, rfl⟩
abbrev main_v108 : Ref sig .tc := ⟨.hbm, 169, rfl⟩
abbrev main_v109 : Ref sig .tc := ⟨.hbm, 170, rfl⟩
abbrev main_c_31 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_c_32 : Ref sig .tc := ⟨.hbm, 182, rfl⟩
abbrev main_v120 : Ref sig .tc := ⟨.hbm, 183, rfl⟩
abbrev main_v121 : Ref sig .tc := ⟨.hbm, 184, rfl⟩
abbrev main_c_33 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_c_34 : Ref sig .tc := ⟨.hbm, 189, rfl⟩
abbrev main_v125 : Ref sig .tc := ⟨.hbm, 190, rfl⟩
abbrev main_v126 : Ref sig .tc := ⟨.hbm, 191, rfl⟩
abbrev main_c_35 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_c_36 : Ref sig .tc := ⟨.hbm, 196, rfl⟩
abbrev main_v130 : Ref sig .tc := ⟨.hbm, 197, rfl⟩
abbrev main_v131 : Ref sig .tc := ⟨.hbm, 198, rfl⟩
abbrev main_c_37 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_c_38 : Ref sig .tc := ⟨.hbm, 210, rfl⟩
abbrev main_v142 : Ref sig .tc := ⟨.hbm, 211, rfl⟩
abbrev main_v143 : Ref sig .tc := ⟨.hbm, 212, rfl⟩
abbrev main_c_39 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_c_40 : Ref sig .tc := ⟨.hbm, 217, rfl⟩
abbrev main_v147 : Ref sig .tc := ⟨.hbm, 218, rfl⟩
abbrev main_v148 : Ref sig .tc := ⟨.hbm, 219, rfl⟩
abbrev main_c_41 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_c_42 : Ref sig .tc := ⟨.hbm, 224, rfl⟩
abbrev main_v152 : Ref sig .tc := ⟨.hbm, 225, rfl⟩
abbrev main_v153 : Ref sig .tc := ⟨.hbm, 226, rfl⟩
abbrev main_c_43 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_call6_v0 : Ref sig .tc := ⟨.hbm, 245, rfl⟩
abbrev main_call6_cst : Ref sig .tc := ⟨.hbm, 246, rfl⟩
abbrev main_call6_call0_v0 : Ref sig .tc := ⟨.hbm, 247, rfl⟩
abbrev main_call6_v1 : Ref sig .tc := ⟨.hbm, 248, rfl⟩
abbrev main_call6_cst_0 : Ref sig .tc := ⟨.hbm, 249, rfl⟩
abbrev main_call6_v2 : Ref sig .tc := ⟨.hbm, 250, rfl⟩
abbrev main_call6_v3 : Ref sig .tc := ⟨.hbm, 251, rfl⟩
abbrev main_call6_cst_1 : Ref sig .tc := ⟨.hbm, 252, rfl⟩
abbrev main_call6_call1_v0 : Ref sig .tc := ⟨.hbm, 253, rfl⟩
abbrev main_call6_v4 : Ref sig .tc := ⟨.hbm, 254, rfl⟩
abbrev main_call6_cst_2 : Ref sig .tc := ⟨.hbm, 255, rfl⟩
abbrev main_call6_v5 : Ref sig .tc := ⟨.hbm, 256, rfl⟩
abbrev main_call6_v6 : Ref sig .tc := ⟨.hbm, 257, rfl⟩
abbrev main_call6_cst_3 : Ref sig .tc := ⟨.hbm, 258, rfl⟩
abbrev main_call6_call2_v0 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_call7_cst : Ref sig .tc := ⟨.hbm, 266, rfl⟩
abbrev main_call7_v0 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_call8_cst : Ref sig .tc := ⟨.hbm, 274, rfl⟩
abbrev main_call8_v0 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩

abbrev nD : Nat := 1
abbrev τ : Topo := Topo.v7x

variable {F : FTy → Type} [FloatOps F]
-- ==== Proof.Words.lean ====
/-
  The integer index arithmetic of the kernel's masks: a floor division and a floor remainder of a
  position by a constant, written out by comparing signs, are the division and remainder of naturals.
-/
module

public import Idealize.ShloMosaic.Lib.Pointwise

@[expose] public section

namespace Cert.Fused

open Idealize.ShloMosaic

/-- Floor division of two words by way of the quotient rounded to zero: one less when the signs
    differ and the division leaves a remainder. -/
def floorDiv (n d : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi (Scalar.extui (Scalar.cmpi .sgt d 0#32)) (Scalar.extui (Scalar.cmpi .slt d 0#32))))
      (IntOp.cmpi .ne (IntOp.remsi .vector n d) 0#32))
    (IntOp.subi (IntOp.divsi .vector n d) 1#32)
    (IntOp.divsi .vector n d)

/-- Division by four, of the words below 96. -/
theorem floorDiv_4 : ∀ k : Fin 96, floorDiv (BitVec.ofNat 32 k) 4#32 = BitVec.ofNat 32 (k / 4) := by
  decide +kernel
/-- Division by ten, likewise. -/
theorem floorDiv_10 : ∀ k : Fin 96, floorDiv (BitVec.ofNat 32 k) 10#32 = BitVec.ofNat 32 (k / 10) := by
  decide +kernel
/-- Division by twenty, likewise. -/
theorem floorDiv_20 : ∀ k : Fin 96, floorDiv (BitVec.ofNat 32 k) 20#32 = BitVec.ofNat 32 (k / 20) := by
  decide +kernel

/-- A choice by the equality of two positions written as words. -/
theorem select_eq {α : Type} (a b : ℕ) (ha : a < 96) (hb : b < 96) (x y : α) :
    Scalar.select (IntOp.cmpi .eq (BitVec.ofNat 32 a) (BitVec.ofNat 32 b)) x y = if a = b then x else y := by
  by_cases hab : a = b
  · subst hab; simp [Scalar.select, IntOp.cmpi]
  · have h : (BitVec.ofNat 32 a == BitVec.ofNat 32 b) = false := by
      rw [beq_eq_false_iff_ne]
      intro h
      have := congrArg BitVec.toNat h
      rw [BitVec.toNat_ofNat, BitVec.toNat_ofNat] at this
      omega
    simp [Scalar.select, IntOp.cmpi, hab, h]

end Cert.Fused

end
-- ==== Proof.Masks.lean ====
/-
  The three block-diagonal weight arrays the kernel builds in its body, entry by entry: each holds
  copies of a small weight array on the blocks of its diagonal, and zeros elsewhere.
-/
module

public import proofs.«01_k».proof.Proof.Gen.KernelIdeal.Frame
public import proofs.«01_k».proof.Proof.Words

@[expose] public section

namespace Cert.Fused

open Cert.KernelIdeal Cert.KernelIdeal.Gen Idealize.ShloMosaic

set_option maxRecDepth 16384

/-- The last layer's array: the block of joint `j` sits in rows `4j …` and columns `10j …`. -/
theorem mask3_apply (a : Vec Ideal S4x10 .f32) (r : Fin 16) (l : Fin 40) :
    (k0_pay46 (F := Ideal) (k0_pay43 a) (iota .tc S16x40 32 [0] iota_S16x40_d0_w32)
      (iota .tc S16x40 32 [1] iota_S16x40_d1_w32) 4#32 k0_pay44 k0_pay45
      (Scalar.extui (Scalar.cmpi .sgt 4#32 0#32)) (Scalar.extui (Scalar.cmpi .slt 4#32 0#32))) (ix2 r l)
    = if r.val / 4 = l.val / 10 then a (ix2 ⟨r.val % 4, by omega⟩ ⟨l.val % 10, by omega⟩) else 0 := by
  pointwise [k0_pay46, k0_pay43, k0_pay44, k0_pay45]
  rw [← select_eq (r.val / 4) (l.val / 10) (by omega) (by omega),
    ← floorDiv_4 ⟨r, by omega⟩, ← floorDiv_10 ⟨l, by omega⟩]
  refine congrArg (fun z => Scalar.select _ z (0 : EReal)) ?_
  split_ifs <;> (congr 3 <;> omega)

/-- The middle layer's array: the block of joint `j` sits in rows `10j …` and columns `20j …`. -/
theorem mask2_apply (a : Vec Ideal S10x20 .f32) (r : Fin 40) (l : Fin 80) :
    (k0_pay42 (F := Ideal) (k0_pay40 a) (iota .tc S40x80 32 [1] iota_S40x80_d1_w32) k0_pay41) (ix2 r l)
    = if r.val / 10 = l.val / 20 then a (ix2 ⟨r.val % 10, by omega⟩ ⟨l.val % 20, by omega⟩) else 0 := by
  pointwise [k0_pay42, k0_pay40, k0_pay41]
  rw [← select_eq (r.val / 10) (l.val / 20) (by omega) (by omega),
    ← floorDiv_10 ⟨r, by omega⟩, ← floorDiv_20 ⟨l, by omega⟩]
  refine congrArg (fun z => Scalar.select _ z (0 : EReal)) ?_
  split_ifs <;> (congr 3 <;> omega)

/-- The row words of the first layer's mask: the joint of a row. -/
theorem rowWord_apply (r : Fin 80) (l : Fin 96) :
    k0_pay35 (iota .tc S80x96 32 [0] iota_S80x96_d0_w32) 20#32 k0_pay33 k0_pay34 (ix2 r l)
    = BitVec.ofNat 32 (r.val / 20) := by
  pointwise [k0_pay35, k0_pay33, k0_pay34]
  exact floorDiv_20 ⟨r, by omega⟩

/-- The column words before their division: the position of a column in its group of sixteen. -/
theorem colWord_apply (r : Fin 80) (l : Fin 96) :
    k0_pay36 (iota .tc S80x96 32 [1] iota_S80x96_d1_w32) (ix2 r l) = BitVec.ofNat 32 (l.val % 16) := by
  pointwise [k0_pay36]
  revert l
  decide +kernel

set_option maxHeartbeats 4000000 in
/-- The six groups of columns, each four copies of four columns of the permuted weights. -/
theorem tiled_apply (x : Vec Ideal S20x24 .f32) (o : Fin 20) (l : Fin 96) :
    k0_pay32 (View.ld x r0_7) (View.ld x r0_8) (View.ld x r0_9) (View.ld x r0_10) (View.ld x r0_11)
      (View.ld x r0_12) (ix2 o l) = x (ix2 o ⟨4 * (l.val / 16) + l.val % 4, by omega⟩) := by
  pointwise [k0_pay32]
  split_ifs <;> (congr 3; omega)

/-- The first layer's array: a row of joint `j` has the permuted weights in the columns of the
    joint `j` of each group of sixteen. -/
theorem mask1_apply (x : Vec Ideal S20x24 .f32) (r : Fin 80) (l : Fin 96) :
    k0_pay39 (k0_pay32 (View.ld x r0_7) (View.ld x r0_8) (View.ld x r0_9) (View.ld x r0_10)
        (View.ld x r0_11) (View.ld x r0_12))
      (k0_pay35 (iota .tc S80x96 32 [0] iota_S80x96_d0_w32) 20#32 k0_pay33 k0_pay34)
      (k0_pay36 (iota .tc S80x96 32 [1] iota_S80x96_d1_w32)) 4#32
      (k0_pay37 (iota .tc S80x96 32 [1] iota_S80x96_d1_w32))
      (k0_pay38 (iota .tc S80x96 32 [1] iota_S80x96_d1_w32)) (Scalar.cmpi .sgt 4#32 0#32) (ix2 r l)
    = if r.val / 20 = l.val % 16 / 4
      then x (ix2 ⟨r.val % 20, by omega⟩ ⟨4 * (l.val / 16) + l.val % 4, by omega⟩) else 0 := by
  have hp := tiled_apply x
  generalize k0_pay32 (View.ld x r0_7) (View.ld x r0_8) (View.ld x r0_9) (View.ld x r0_10)
    (View.ld x r0_11) (View.ld x r0_12) = p at hp ⊢
  have hr := rowWord_apply r l
  generalize k0_pay35 (iota .tc S80x96 32 [0] iota_S80x96_d0_w32) 20#32 k0_pay33 k0_pay34 = w at hr ⊢
  pointwise [k0_pay39, k0_pay37, k0_pay38]
  rw [colWord_apply, hr, ← select_eq (r.val / 20) (l.val % 16 / 4) (by omega) (by omega),
    ← floorDiv_4 ⟨l.val % 16, by omega⟩]
  refine congrArg (fun z => Scalar.select _ z (0 : EReal)) ?_
  simp only [hp]
  split_ifs <;> (congr 3; omega)

end Cert.Fused

end
-- ==== Proof.Spec.lean ====
/-
  What both programs compute, row by row: a three-layer network on a row of 256 numbers, the
  transition features looked up from its rounded outputs, and a second three-layer network on
  the 24 features of each of the four joints.
-/
module

public import Idealize.ShloMosaic.Lib.Pointwise

@[expose] public section

namespace Cert.Fused

open Idealize.ShloMosaic

/-- One dense layer: `W x + b`. -/
noncomputable def dense {n m : ℕ} (W : Fin n → Fin m → EReal) (b : Fin n → EReal)
    (x : Fin m → EReal) (r : Fin n) : EReal := (∑ k, W r k * x k) + b r

/-- The positive part of each entry. -/
noncomputable def relu {n : ℕ} (x : Fin n → EReal) (r : Fin n) : EReal := max (x r) 0

/-- The three layers with a positive part after the first two. -/
noncomputable def net {a b c d : ℕ} (W₁ : Fin b → Fin a → EReal) (b₁ : Fin b → EReal)
    (W₂ : Fin c → Fin b → EReal) (b₂ : Fin c → EReal) (W₃ : Fin d → Fin c → EReal)
    (b₃ : Fin d → EReal) (x : Fin a → EReal) : Fin d → EReal :=
  dense W₃ b₃ (relu (dense W₂ b₂ (relu (dense W₁ b₁ x))))

/-- The state of a number, as a number: it is moved up by two, rounded to nearest even and
    confined to `0 … 3`. -/
noncomputable def level (y : EReal) : EReal :=
  min (((3 : ℕ) : ℝ) : EReal) (max (((0 : ℕ) : ℝ) : EReal)
    (Ideal.liftRound Ideal.roundHalfEven (y + (((2 : ℕ) : ℝ) : EReal))))

/-- The level of every extended real is one of `0`, `1`, `2`, `3`. -/
theorem exists_level (y : EReal) : ∃ a : Fin 4, level y = (((a : ℕ) : ℝ) : EReal) := by
  have key : ∀ z : EReal, ∃ a : Fin 4, min (((3 : ℕ) : ℝ) : EReal) (max (((0 : ℕ) : ℝ) : EReal)
      (Ideal.liftRound Ideal.roundHalfEven z)) = (((a : ℕ) : ℝ) : EReal) := by
    intro z
    induction z with
    | bot => exact ⟨0, by simp⟩
    | top => exact ⟨3, by simp⟩
    | coe r =>
      rw [Ideal.liftRound_coe]
      generalize Ideal.roundHalfEven r = z
      have hz : ((((0 : ℕ) : ℝ)) : EReal) = (((0 : ℤ) : ℝ) : EReal) := by norm_num
      have h3 : ((((3 : ℕ) : ℝ)) : EReal) = (((3 : ℤ) : ℝ) : EReal) := by norm_num
      rw [hz, h3, ← EReal.coe_strictMono.monotone.map_max,
        ← EReal.coe_strictMono.monotone.map_min, ← Int.cast_max, ← Int.cast_min]
      refine ⟨⟨(min 3 (max 0 z)).toNat, by omega⟩, ?_⟩
      have h : (((min 3 (max 0 z)).toNat : ℕ) : ℤ) = min 3 (max 0 z) := by omega
      show _ = ((((min 3 (max 0 z)).toNat : ℕ) : ℝ) : EReal)
      rw [← Int.cast_natCast, h]
  exact key _

/-- The state of a number, as an index. -/
noncomputable def state (y : EReal) : Fin 4 := (exists_level y).choose

/-- The level of a number is its state, read as an extended real. -/
theorem level_eq (y : EReal) : level y = (((state y : ℕ) : ℝ) : EReal) := (exists_level y).choose_spec

/-- The five columns of the transition table that a state `a` looks at, when the state it moves
    to is `b`: `b` itself, one and two above `a`, one and two below, each confined to `0 … 3`. -/
def column (a b : Fin 4) (t : Fin 5) : Fin 4 :=
  ![b, ⟨min (a + 1) 3, by omega⟩, ⟨a - 1, by omega⟩, ⟨min (a + 2) 3, by omega⟩, ⟨a - 2, by omega⟩] t

/-- The largest finite number of the 32-bit format. -/
noncomputable def fmax : EReal := ((340282346638528859811704183484516925440 : ℝ) : EReal)

/-- A number confined to the finite numbers of the 32-bit format. -/
noncomputable def confine (y : EReal) : EReal := min fmax (max (-fmax) y)

/-- The entry before the entry `k` of a joint `j`, in time: for the first joint the last four
    entries of the row, for the others the first network's output for the joint before. -/
noncomputable def before (x : Fin 256 → EReal) (f : Fin 16 → EReal) (c : Fin 16) : EReal :=
  if h : c.val < 4 then x ⟨252 + c.val, by omega⟩ else f ⟨c.val - 4, by omega⟩

/-- The six features of the entry `c` (entry `k` of a joint): its value, and five
    entries of the transition table of `k` in the row of the state before. -/
noncomputable def feature (T : Fin 4 → Fin 4 → Fin 4 → EReal) (x : Fin 256 → EReal)
    (f : Fin 16 → EReal) (c : Fin 16) (t : Fin 6) : EReal :=
  Fin.cases (confine (f c)) (fun s : Fin 5 =>
    T ⟨c.val % 4, by omega⟩ (state (before x f c)) (column (state (before x f c)) (state (f c)) s)) t

/-- The 24 features of a joint: six for each of its four entries. -/
noncomputable def features (T : Fin 4 → Fin 4 → Fin 4 → EReal) (x : Fin 256 → EReal)
    (f : Fin 16 → EReal) (j : Fin 4) (i : Fin 24) : EReal :=
  feature T x f ⟨4 * j.val + i.val / 6, by omega⟩ ⟨i.val % 6, by omega⟩

end Cert.Fused

end
-- ==== Proof.Consts.lean ====
/-
  The float constants of the two programs as numbers.
-/
module

public import proofs.«01_k».proof.Proof.Spec

@[expose] public section

namespace Cert.Fused

open Idealize.ShloMosaic

/-- One, as a natural read as an extended real. -/
theorem one_eq : (1 : EReal) = (((1 : ℕ) : ℝ) : EReal) := by norm_num

/-- Zero, likewise. -/
theorem zero_eq : (0 : EReal) = (((0 : ℕ) : ℝ) : EReal) := by norm_num

/-- The word of `0.0` is that number. -/
theorem bits_zero : Ideal.ofBits .f32 0x00000000#32 = (((0 : ℕ) : ℝ) : EReal) := by
  simp [Ideal.ofBits, Ideal.ieee, -EReal.coe_mul]

/-- The word of `1.0` is that number. -/
theorem bits_one : Ideal.ofBits .f32 0x3F800000#32 = (((1 : ℕ) : ℝ) : EReal) := by
  simp [Ideal.ofBits, Ideal.ieee, -EReal.coe_mul]; norm_num

/-- The word of `2.0` is that number. -/
theorem bits_two : Ideal.ofBits .f32 0x40000000#32 = (((2 : ℕ) : ℝ) : EReal) := by
  simp [Ideal.ofBits, Ideal.ieee, -EReal.coe_mul]; norm_num

/-- The word of `3.0` is that number. -/
theorem bits_three : Ideal.ofBits .f32 0x40400000#32 = (((3 : ℕ) : ℝ) : EReal) := by
  simp [Ideal.ofBits, Ideal.ieee, -EReal.coe_mul]; norm_num

/-- The word of `4.0` is that number. -/
theorem bits_four : Ideal.ofBits .f32 0x40800000#32 = (((4 : ℕ) : ℝ) : EReal) := by
  simp [Ideal.ofBits, Ideal.ieee, -EReal.coe_mul]; norm_num

/-- The word of `5.0` is that number. -/
theorem bits_five : Ideal.ofBits .f32 0x40A00000#32 = (((5 : ℕ) : ℝ) : EReal) := by
  simp [Ideal.ofBits, Ideal.ieee, -EReal.coe_mul]; norm_num

/-- The word of `6.0` is that number. -/
theorem bits_six : Ideal.ofBits .f32 0x40C00000#32 = (((6 : ℕ) : ℝ) : EReal) := by
  simp [Ideal.ofBits, Ideal.ieee, -EReal.coe_mul]; norm_num

/-- The word of `7.0` is that number. -/
theorem bits_seven : Ideal.ofBits .f32 0x40E00000#32 = (((7 : ℕ) : ℝ) : EReal) := by
  simp [Ideal.ofBits, Ideal.ieee, -EReal.coe_mul]; norm_num

/-- The word of `8.0` is that number. -/
theorem bits_eight : Ideal.ofBits .f32 0x41000000#32 = (((8 : ℕ) : ℝ) : EReal) := by
  simp [Ideal.ofBits, Ideal.ieee, -EReal.coe_mul]; norm_num

/-- The word of `9.0` is that number. -/
theorem bits_nine : Ideal.ofBits .f32 0x41100000#32 = (((9 : ℕ) : ℝ) : EReal) := by
  simp [Ideal.ofBits, Ideal.ieee, -EReal.coe_mul]; norm_num

/-- The word of `10.0` is that number. -/
theorem bits_ten : Ideal.ofBits .f32 0x41200000#32 = (((10 : ℕ) : ℝ) : EReal) := by
  simp [Ideal.ofBits, Ideal.ieee, -EReal.coe_mul]; norm_num

/-- The word of `11.0` is that number. -/
theorem bits_eleven : Ideal.ofBits .f32 0x41300000#32 = (((11 : ℕ) : ℝ) : EReal) := by
  simp [Ideal.ofBits, Ideal.ieee, -EReal.coe_mul]; norm_num

/-- The word of `12.0` is that number. -/
theorem bits_twelve : Ideal.ofBits .f32 0x41400000#32 = (((12 : ℕ) : ℝ) : EReal) := by
  simp [Ideal.ofBits, Ideal.ieee, -EReal.coe_mul]; norm_num

/-- The word of `13.0` is that number. -/
theorem bits_thirteen : Ideal.ofBits .f32 0x41500000#32 = (((13 : ℕ) : ℝ) : EReal) := by
  simp [Ideal.ofBits, Ideal.ieee, -EReal.coe_mul]; norm_num

/-- The word of `14.0` is that number. -/
theorem bits_fourteen : Ideal.ofBits .f32 0x41600000#32 = (((14 : ℕ) : ℝ) : EReal) := by
  simp [Ideal.ofBits, Ideal.ieee, -EReal.coe_mul]; norm_num

/-- The word of `15.0` is that number. -/
theorem bits_fifteen : Ideal.ofBits .f32 0x41700000#32 = (((15 : ℕ) : ℝ) : EReal) := by
  simp [Ideal.ofBits, Ideal.ieee, -EReal.coe_mul]; norm_num

/-- The largest finite number. -/
theorem bits_fmax : Ideal.ofBits .f32 0x7F7FFFFF#32 = fmax := by
  simp [Ideal.ofBits, Ideal.ieee, fmax, -EReal.coe_mul]; norm_num

/-- The smallest finite number. -/
theorem bits_neg_fmax : Ideal.ofBits .f32 0xFF7FFFFF#32 = -fmax := by
  rw [fmax, ← EReal.coe_neg]
  simp [Ideal.ofBits, Ideal.ieee, -EReal.coe_mul, -EReal.coe_neg]; norm_num

/-- The word of the positive infinity. -/
theorem bits_inf : Ideal.ofBits .f32 0x7F800000#32 = ⊤ := by
  simp [Ideal.ofBits, Ideal.ieee]

/-- The word of the negative infinity. -/
theorem bits_neg_inf : Ideal.ofBits .f32 0xFF800000#32 = ⊥ := by
  simp [Ideal.ofBits, Ideal.ieee]

/-- Two naturals are equal as extended reals just when they are equal. -/
theorem cast_inj (a b : ℕ) : (((a : ℝ) : EReal) = ((b : ℝ) : EReal)) ↔ a = b := by
  rw [EReal.coe_eq_coe_iff, Nat.cast_inj]

end Cert.Fused

end
-- ==== Proof.Table.lean ====
/-
  The kernel's table look-ups and its array of features, entry by entry. A look-up compares a state
  with each of its possible values and adds up the table's columns under zeros elsewhere: the sum
  is the column of the state.
-/
module

public import proofs.«01_k».proof.Proof.Gen.KernelIdeal.Frame
public import proofs.«01_k».proof.Proof.Consts

@[expose] public section

namespace Cert.Fused

open Cert.KernelIdeal Cert.KernelIdeal.Gen Idealize.ShloMosaic

set_option maxRecDepth 16384

/-- The sixteen-way look-up: the column of the number `n` the entry holds. -/
theorem lookup_apply (s1 p z : FVec Ideal S16x2048 .f32) (k : Ideal .f32) (t : Vec Ideal S16x16 .f32)
    (c : Fin 16) (r : Fin 2048) (n : Fin 16)
    (hn : k0_pay10 s1 p k z (ix2 c r) = (((n : ℕ) : ℝ) : EReal)) :
    k0_pay15 (F := Ideal) (k0_pay8 t) (k0_pay10 s1 p k z)
      (k0_pay13 (k0_pay8 t) (k0_pay10 s1 p k z) (k0_pay11 s1 p k z t) (k0_pay12 s1 p k z))
      (k0_pay14 (k0_pay10 s1 p k z)) (ix2 c r) = t (ix2 c n) := by
  unfold k0_pay11 k0_pay12
  generalize k0_pay10 s1 p k z = m at hn ⊢
  pointwise [k0_pay15, k0_pay13, k0_pay14, k0_pay8]
  rw [hn]
  simp only [one_eq, zero_eq, bits_two, bits_three, bits_four, bits_five, bits_six, bits_seven,
    bits_eight, bits_nine, bits_ten, bits_eleven, bits_twelve, bits_thirteen, bits_fourteen,
    bits_fifteen, cast_inj]
  fin_cases n <;> simp

/-- The first four-way look-up, of the columns `0 … 3` of the second table. -/
theorem above1_apply (s : FVec Ideal S16x2048 .f32) (t : FVec Ideal S16x16 .f32)
    (c : Fin 16) (r : Fin 2048) (n : Fin 4) (hn : s (ix2 c r) = (((n : ℕ) : ℝ) : EReal)) :
    k0_pay27 (F := Ideal) s t (k0_pay20 s t k0_pay16) (ix2 c r) = t (ix2 c ⟨n, by omega⟩) := by
  pointwise [k0_pay27, k0_pay20, k0_pay16, k0_pay17, k0_pay19, k0_pay23, k0_pay26]
  rw [hn]
  simp only [one_eq, zero_eq, bits_two, bits_three, cast_inj]
  fin_cases n <;> simp

/-- The second, of the columns `4 … 7`. -/
theorem below1_apply (s : FVec Ideal S16x2048 .f32) (t : FVec Ideal S16x16 .f32)
    (c : Fin 16) (r : Fin 2048) (n : Fin 4) (hn : s (ix2 c r) = (((n : ℕ) : ℝ) : EReal)) :
    k0_pay28 (F := Ideal) s t (k0_pay21 s t (Scalar.ofBits .f32 0x00000000#32)) (ix2 c r)
      = t (ix2 c ⟨4 + n, by omega⟩) := by
  pointwise [k0_pay28, k0_pay21, k0_pay17, k0_pay19, k0_pay23, k0_pay26]
  rw [hn]
  simp only [one_eq, zero_eq, bits_two, bits_three, cast_inj]
  fin_cases n <;> simp

/-- The array of features, stacked: the confined values, the five look-ups. -/
theorem stack_apply (f b g h s : FVec Ideal S16x2048 .f32) (t : FVec Ideal S16x16 .f32)
    (c : Fin 16) (r : Fin 2048) (n : Fin 4) (hn : s (ix2 c r) = (((n : ℕ) : ℝ) : EReal)) (q : Fin 6)
    (l : Fin 96) (hl : l.val = 16 * q.val + c.val) :
    k0_pay31 (F := Ideal) f t b (k0_pay24 s t (k0_pay22 s t)) (k0_pay25 s t (k0_pay18 s t) (k0_pay19 s))
      (k0_pay26 s) g h (k0_pay29 t) k0_pay30 (ix2 l r)
    = ![confine (f (ix2 c r)), b (ix2 c r), g (ix2 c r), h (ix2 c r),
        t (ix2 c ⟨8 + n, by omega⟩), t (ix2 c ⟨12 + n, by omega⟩)] q := by
  pointwise [k0_pay31, k0_pay26, k0_pay29, k0_pay30, k0_pay24, k0_pay22, k0_pay25, k0_pay18,
    k0_pay17, k0_pay19, k0_pay23]
  simp only [one_eq, zero_eq, bits_two, bits_three, bits_fmax, bits_neg_fmax]
  have at_c : ∀ (x : FVec Ideal S16x2048 .f32) (i : ℕ) (hi : i < 16), i = c.val →
      x (ix2 ⟨i, hi⟩ r) = x (ix2 c r) := by rintro x i hi rfl; rfl
  have at_t : ∀ (i : ℕ) (hi : i < 16) (m : Fin 16), i = c.val → t (ix2 ⟨i, hi⟩ m) = t (ix2 c m) := by
    rintro i hi m rfl; rfl
  obtain ⟨q, hq⟩ := q
  simp only at hl
  interval_cases q
  · rw [dif_pos (by omega)]
    simp only [at_c _ _ _ (show l.val = c.val by omega)]
    simp [confine]
  · rw [dif_neg (by omega), dif_pos (by omega)]
    simp only [at_c _ _ _ (show l.val - 16 = c.val by omega)]
    simp
  · rw [dif_neg (by omega), dif_neg (by omega), dif_pos (by omega)]
    simp only [at_c _ _ _ (show l.val - 16 - 16 = c.val by omega)]
    simp
  · rw [dif_neg (by omega), dif_neg (by omega), dif_neg (by omega), dif_pos (by omega)]
    simp only [at_c _ _ _ (show l.val - 16 - 16 - 16 = c.val by omega)]
    simp
  · rw [dif_neg (by omega), dif_neg (by omega), dif_neg (by omega), dif_neg (by omega),
      dif_pos (by omega)]
    simp only [at_c _ _ _ (show l.val - 16 - 16 - 16 - 16 = c.val by omega),
      at_t _ _ _ (show l.val - 16 - 16 - 16 - 16 = c.val by omega), hn, cast_inj]
    fin_cases n <;> simp
  · rw [dif_neg (by omega), dif_neg (by omega), dif_neg (by omega), dif_neg (by omega),
      dif_neg (by omega)]
    simp only [at_c _ _ _ (show l.val - 16 - 16 - 16 - 16 - 16 = c.val by omega),
      at_t _ _ _ (show l.val - 16 - 16 - 16 - 16 - 16 = c.val by omega), hn, cast_inj]
    fin_cases n <;> simp

end Cert.Fused

end
-- ==== Proof.Block.lean ====
/-
  What the kernel's body writes, entry by entry: row `r` and column `4 j + q` of the block hold
  output `q` of the second network on the features of joint `j`, for row `r` of the input block.
-/
module

public import proofs.«01_k».proof.Proof.Masks
public import proofs.«01_k».proof.Proof.Table
public import Idealize.ShloMosaic.Lib.Pipeline.ValueKit

@[expose] public section

namespace Cert.Fused

open Cert.KernelIdeal Cert.KernelIdeal.Gen Idealize.ShloMosaic

set_option maxRecDepth 16384

/-- A sum under a mask is the sum over the positions the mask lets through. -/
theorem sum_masked {N n : ℕ} (e : Fin n → Fin N) (he : Function.Injective e) (p : Fin N → Prop)
    [DecidablePred p] (hp : ∀ l, p l ↔ ∃ i, e i = l) (w a : Fin N → EReal) :
    ∑ l, (if p l then w l else 0) * a l = ∑ i, w (e i) * a (e i) := by
  have h : (Finset.univ.filter p) = Finset.univ.map ⟨e, he⟩ := by
    ext l; simp [hp]
  calc ∑ l, (if p l then w l else 0) * a l = ∑ l, if p l then w l * a l else 0 := by
        refine Finset.sum_congr rfl fun l _ => ?_
        split_ifs <;> simp
    _ = ∑ i, w (e i) * a (e i) := by
        rw [← Finset.sum_filter, h, Finset.sum_map]; rfl

/-- The first network of a row of the input block. -/
noncomputable def firstOf (x0 : Vec Ideal S2048x256 .f32) (x7 : Vec Ideal S277x1 .f32)
    (x1 : Vec Ideal S100x256 .f32) (x2 : Vec Ideal S25x100 .f32) (x3 : Vec Ideal S16x25 .f32)
    (r : Fin 2048) : Fin 16 → EReal :=
  net (fun a b => x1 (ix2 a b)) (fun a => x7 (ix2 ⟨a, by omega⟩ 0)) (fun a b => x2 (ix2 a b))
    (fun a => x7 (ix2 ⟨100 + a, by omega⟩ 0)) (fun a b => x3 (ix2 a b))
    (fun a => x7 (ix2 ⟨125 + a, by omega⟩ 0)) (fun k => x0 (ix2 r k))

section
variable (x0 : Vec Ideal S2048x256 .f32) (x7 : Vec Ideal S277x1 .f32)
  (x1 : Vec Ideal S100x256 .f32) (x2 : Vec Ideal S25x100 .f32) (x3 : Vec Ideal S16x25 .f32)

/-- The first network's outputs, as the body computes them. -/
theorem first_apply (c : Fin 16) (r : Fin 2048) :
    k0_pay4 (F := Ideal) x0 x7 x1 x2 x3 (ix2 c r) = firstOf x0 x7 x1 x2 x3 r c := by
  pointwise [k0_pay4, k0_pay2, k0_pay3]
  rfl

/-- The levels of the entries before, as the body computes them. -/
theorem levelBefore_apply (c : Fin 16) (r : Fin 2048) :
    k0_pay5 (F := Ideal) x0 x7 x1 x2 x3 (ix2 c r)
      = (((state (before (fun k => x0 (ix2 r k)) (firstOf x0 x7 x1 x2 x3 r) c) : ℕ) : ℝ) : EReal) := by
  rw [← level_eq]
  pointwise [k0_pay5, k0_pay2]
  simp only [first_apply, bits_two, bits_three]
  rw [zero_eq]
  rfl

/-- The number that stands for the pair of states of an entry. -/
theorem pair_apply (c : Fin 16) (r : Fin 2048) :
    k0_pay10 (F := Ideal) (k0_pay5 x0 x7 x1 x2 x3) (k0_pay6 x0 x7 x1 x2 x3)
      (Scalar.ofBits .f32 0x40400000#32) k0_pay7 (ix2 c r)
      = (((4 * (state (before (fun k => x0 (ix2 r k)) (firstOf x0 x7 x1 x2 x3 r) c)).val
          + (state (firstOf x0 x7 x1 x2 x3 r c)).val : ℕ) : ℝ) : EReal) := by
  have h := level_eq (firstOf x0 x7 x1 x2 x3 r c)
  unfold level at h
  pointwise [k0_pay10, k0_pay6, k0_pay7]
  rw [levelBefore_apply]
  simp only [first_apply, bits_two, bits_three, bits_four]
  rw [zero_eq, h, ← EReal.coe_mul, ← EReal.coe_add]
  push_cast
  rw [mul_comm]

end

/-- The stacked array of features: group `t` at entry `c` holds feature `t` of the entry. -/
theorem features_apply (x0 : Vec Ideal S2048x256 .f32) (x7 : Vec Ideal S277x1 .f32)
    (x1 : Vec Ideal S100x256 .f32) (x2 : Vec Ideal S25x100 .f32) (x3 : Vec Ideal S16x25 .f32)
    (u : Vec Ideal S16x16 .f32) (v : FVec Ideal S16x16 .f32) (T : Fin 4 → Fin 4 → Fin 4 → EReal)
    (c : Fin 16) (r : Fin 2048)
    (hu : ∀ a b : Fin 4, u (ix2 c ⟨4 * a.val + b.val, by omega⟩) = T ⟨c.val % 4, by omega⟩ a b)
    (hv : ∀ s a b : Fin 4, v (ix2 c ⟨4 * s.val + a.val, by omega⟩)
      = T ⟨c.val % 4, by omega⟩ a (column a b s.succ))
    (t : Fin 6) (l : Fin 96) (hl : l.val = 16 * t.val + c.val) :
    k0_pay31 (F := Ideal) (k0_pay4 x0 x7 x1 x2 x3) v
      (k0_pay15 (k0_pay8 u)
        (k0_pay10 (k0_pay5 x0 x7 x1 x2 x3) (k0_pay6 x0 x7 x1 x2 x3) (Scalar.ofBits .f32 0x40400000#32) k0_pay7)
        (k0_pay13 (k0_pay8 u)
          (k0_pay10 (k0_pay5 x0 x7 x1 x2 x3) (k0_pay6 x0 x7 x1 x2 x3) (Scalar.ofBits .f32 0x40400000#32) k0_pay7)
          (k0_pay11 (k0_pay5 x0 x7 x1 x2 x3) (k0_pay6 x0 x7 x1 x2 x3) (Scalar.ofBits .f32 0x40400000#32) k0_pay7 u)
          (k0_pay12 (k0_pay5 x0 x7 x1 x2 x3) (k0_pay6 x0 x7 x1 x2 x3) (Scalar.ofBits .f32 0x40400000#32) k0_pay7))
        (k0_pay14
          (k0_pay10 (k0_pay5 x0 x7 x1 x2 x3) (k0_pay6 x0 x7 x1 x2 x3) (Scalar.ofBits .f32 0x40400000#32) k0_pay7)))
      (k0_pay24 (k0_pay5 x0 x7 x1 x2 x3) v (k0_pay22 (k0_pay5 x0 x7 x1 x2 x3) v))
      (k0_pay25 (k0_pay5 x0 x7 x1 x2 x3) v (k0_pay18 (k0_pay5 x0 x7 x1 x2 x3) v)
        (k0_pay19 (k0_pay5 x0 x7 x1 x2 x3)))
      (k0_pay26 (k0_pay5 x0 x7 x1 x2 x3))
      (k0_pay27 (k0_pay5 x0 x7 x1 x2 x3) v (k0_pay20 (k0_pay5 x0 x7 x1 x2 x3) v k0_pay16))
      (k0_pay28 (k0_pay5 x0 x7 x1 x2 x3) v
        (k0_pay21 (k0_pay5 x0 x7 x1 x2 x3) v (Scalar.ofBits .f32 0x00000000#32)))
      (k0_pay29 v) k0_pay30 (ix2 l r)
    = feature T (fun k => x0 (ix2 r k)) (firstOf x0 x7 x1 x2 x3 r) c t := by
  have hs := levelBefore_apply x0 x7 x1 x2 x3 c r
  have hp := pair_apply x0 x7 x1 x2 x3 c r
  have hf := first_apply x0 x7 x1 x2 x3 c r
  rw [stack_apply _ _ _ _ _ _ c r _ hs t l hl, lookup_apply _ _ _ _ _ c r ⟨_, by omega⟩ hp,
    above1_apply _ _ c r _ hs, below1_apply _ _ c r _ hs, hf, hu]
  have h0 := hv 0 (state (before (fun k => x0 (ix2 r k)) (firstOf x0 x7 x1 x2 x3 r) c))
    (state (firstOf x0 x7 x1 x2 x3 r c))
  have h1 := hv 1 (state (before (fun k => x0 (ix2 r k)) (firstOf x0 x7 x1 x2 x3 r) c))
    (state (firstOf x0 x7 x1 x2 x3 r c))
  have h2 := hv 2 (state (before (fun k => x0 (ix2 r k)) (firstOf x0 x7 x1 x2 x3 r) c))
    (state (firstOf x0 x7 x1 x2 x3 r c))
  have h3 := hv 3 (state (before (fun k => x0 (ix2 r k)) (firstOf x0 x7 x1 x2 x3 r) c))
    (state (firstOf x0 x7 x1 x2 x3 r c))
  simp only [Fin.isValue, Fin.val_zero, mul_zero, zero_add] at h0
  refine Fin.cases ?_ (fun s => ?_) t
  · rfl
  · fin_cases s
    · rfl
    · exact h0
    · exact h1
    · exact h2
    · exact h3

/-- The body's result at an entry. -/
theorem out_apply (x0 : Vec Ideal S2048x256 .f32) (x1 : Vec Ideal S100x256 .f32)
    (x2 : Vec Ideal S25x100 .f32) (x3 : Vec Ideal S16x25 .f32) (x4 : Vec Ideal S20x24 .f32)
    (x5 : Vec Ideal S10x20 .f32) (x6 : Vec Ideal S4x10 .f32) (x7 : Vec Ideal S277x1 .f32)
    (x8 : Vec Ideal S16x32 .f32) (T : Fin 4 → Fin 4 → Fin 4 → EReal) (V₁ : Fin 20 → Fin 24 → EReal)
    (c₁ : Fin 20 → EReal) (c₂ : Fin 10 → EReal) (c₃ : Fin 4 → EReal)
    (h4 : ∀ (o : Fin 20) (t : Fin 6) (k : Fin 4),
      x4 (ix2 o ⟨4 * t.val + k.val, by omega⟩) = V₁ o ⟨6 * k.val + t.val, by omega⟩)
    (hc₁ : ∀ (j : Fin 4) (o : Fin 20), x7 (ix2 ⟨141 + (20 * j.val + o.val), by omega⟩ 0) = c₁ o)
    (hc₂ : ∀ (j : Fin 4) (o : Fin 10), x7 (ix2 ⟨221 + (10 * j.val + o.val), by omega⟩ 0) = c₂ o)
    (hc₃ : ∀ (j : Fin 4) (o : Fin 4), x7 (ix2 ⟨261 + (4 * j.val + o.val), by omega⟩ 0) = c₃ o)
    (hT : ∀ (c : Fin 16) (a b : Fin 4),
      x8 (ix2 c ⟨4 * a.val + b.val, by omega⟩) = T ⟨c.val % 4, by omega⟩ a b)
    (hT' : ∀ (c : Fin 16) (s a b : Fin 4),
      x8 (ix2 c ⟨16 + (4 * s.val + a.val), by omega⟩) = T ⟨c.val % 4, by omega⟩ a (column a b s.succ))
    (r : Fin 2048) (j q : Fin 4) :
    out0_9 x0 x1 x2 x3 x4 x5 x6 x7 x8 (ix2 r ⟨4 * j.val + q.val, by omega⟩)
      = net V₁ c₁ (fun a b => x5 (ix2 a b)) c₂ (fun a b => x6 (ix2 a b)) c₃
          (features T (fun k => x0 (ix2 r k)) (firstOf x0 x7 x1 x2 x3 r) j) q := by
  have e0 : View.ld x0 r0_0 = x0 := by funext i; idx_vars i; pointwise []
  have e1 : View.ld x7 r0_1 = x7 := by
    funext i; idx_vars i; rw [Subsingleton.elim i1 0]; pointwise []
  have e2 : View.ld x1 r0_2 = x1 := by funext i; idx_vars i; pointwise []
  have e3 : View.ld x2 r0_3 = x2 := by funext i; idx_vars i; pointwise []
  have e4 : View.ld x3 r0_4 = x3 := by funext i; idx_vars i; pointwise []
  have e5 : View.ld x5 r0_13 = x5 := by funext i; idx_vars i; pointwise []
  have e6 : View.ld x6 r0_14 = x6 := by funext i; idx_vars i; pointwise []
  have e8 : ∀ a b : Fin 16, View.ld x8 r0_5 (ix2 a b) = x8 (ix2 a ⟨b, by omega⟩) := by
    intro a b; pointwise []
  have e8' : ∀ a b : Fin 16, k0_pay9 (View.ld x8 r0_6) (ix2 a b) = x8 (ix2 a ⟨16 + b, by omega⟩) := by
    intro a b; pointwise [k0_pay9]
  unfold_out out0_9
  rw [e0, e1, e2, e3, e4, e5, e6]
  have hfeat : ∀ (t : Fin 6) (k : Fin 4), _ = feature T (fun k => x0 (ix2 r k))
      (firstOf x0 x7 x1 x2 x3 r) ⟨4 * j.val + k.val, by omega⟩ t := fun t k =>
    features_apply x0 x7 x1 x2 x3 _ _ T ⟨4 * j.val + k.val, by omega⟩ r
      (fun a b => (e8 _ _).trans (hT _ a b)) (fun s a b => (e8' _ _).trans (hT' _ s a b)) t
      ⟨16 * t.val + (4 * j.val + k.val), by omega⟩ rfl
  generalize k0_pay31 (F := Ideal) _ _ _ _ _ _ _ _ _ _ = A at hfeat ⊢
  have hm1 := mask1_apply x4
  generalize k0_pay39 (F := Ideal) _ _ _ _ _ _ _ = M₁ at hm1 ⊢
  have hm2 := mask2_apply x5
  generalize k0_pay42 (F := Ideal) _ _ _ = M₂ at hm2 ⊢
  have hm3 := mask3_apply x6
  generalize k0_pay46 (F := Ideal) _ _ _ _ _ _ _ _ = M₃ at hm3 ⊢
  frame_out
  pointwise [k0_pay1, k0_pay47, k0_pay48, k0_pay3]
  -- the first layer of the second network
  have l1 : ∀ o : Fin 20, ∑ l, M₁ (ix2 ⟨20 * j.val + o.val, by omega⟩ l) * A (ix2 l r)
        + x7 (ix2 ⟨141 + (20 * j.val + o.val), by omega⟩ 0)
      = dense V₁ c₁ (features T (fun k => x0 (ix2 r k)) (firstOf x0 x7 x1 x2 x3 r) j) o := by
    intro o
    simp only [hm1]
    rw [sum_masked (fun i : Fin 24 =>
        (⟨16 * (i.val % 6) + (4 * j.val + i.val / 6), by omega⟩ : Fin 96))
      (fun a b h => Fin.ext (by have := congrArg Fin.val h; simp only at this; omega)) _
      (fun l => ⟨fun h => ⟨⟨6 * (l.val % 4) + l.val / 16, by omega⟩, Fin.ext (by
          have e₁ : (6 * (l.val % 4) + l.val / 16) % 6 = l.val / 16 := by omega
          have e₂ : (6 * (l.val % 4) + l.val / 16) / 6 = l.val % 4 := by omega
          have e₃ : j.val = l.val % 16 / 4 := by omega
          simp only [e₁, e₂, e₃]; omega)⟩,
        by
          rintro ⟨i, rfl⟩
          have e₁ : (16 * (i.val % 6) + (4 * j.val + i.val / 6)) % 16 = 4 * j.val + i.val / 6 := by omega
          simp only [e₁]; omega⟩), hc₁]
    unfold dense features
    refine congrArg (· + c₁ o) (Finset.sum_congr rfl fun i _ => ?_)
    refine congrArg₂ (· * ·) ?_ (hfeat ⟨i.val % 6, by omega⟩ ⟨i.val / 6, by omega⟩)
    refine Eq.trans ?_ ((h4 o ⟨i.val % 6, by omega⟩ ⟨i.val / 6, by omega⟩).trans ?_)
    · have e₁ : (16 * (i.val % 6) + (4 * j.val + i.val / 6)) / 16 = i.val % 6 := by omega
      have e₂ : (16 * (i.val % 6) + (4 * j.val + i.val / 6)) % 4 = i.val / 6 := by omega
      refine congrArg x4 ?_
      congr 1 <;> exact Fin.ext (by simp only [e₁, e₂]; try omega)
    · refine congrArg (V₁ o) (Fin.ext ?_)
      simp only; omega
  -- the middle layer
  have l2 : ∀ o : Fin 10, ∑ l, M₂ (ix2 ⟨10 * j.val + o.val, by omega⟩ l)
          * max (∑ l', M₁ (ix2 l l') * A (ix2 l' r) + x7 (ix2 ⟨141 + l.val, by omega⟩ 0)) 0
        + x7 (ix2 ⟨221 + (10 * j.val + o.val), by omega⟩ 0)
      = dense (fun a b => x5 (ix2 a b)) c₂ (relu (dense V₁ c₁
          (features T (fun k => x0 (ix2 r k)) (firstOf x0 x7 x1 x2 x3 r) j))) o := by
    intro o
    simp only [hm2]
    rw [sum_masked (fun i : Fin 20 => (⟨20 * j.val + i.val, by omega⟩ : Fin 80))
      (fun a b h => Fin.ext (by have := congrArg Fin.val h; simp only at this; omega)) _
      (fun l => ⟨fun h => ⟨⟨l.val - 20 * j.val, by omega⟩, Fin.ext (by simp only; omega)⟩,
        by rintro ⟨i, rfl⟩; simp only; omega⟩), hc₂]
    refine congrArg (· + c₂ o) (Finset.sum_congr rfl fun i _ => ?_)
    refine congrArg₂ (· * ·) (congrArg x5 ?_) (congrArg (max · 0) (l1 i))
    congr 1 <;> exact Fin.ext (by simp only; omega)
  -- the last layer
  simp only [hm3]
  rw [sum_masked (fun i : Fin 10 => (⟨10 * j.val + i.val, by omega⟩ : Fin 40))
    (fun a b h => Fin.ext (by have := congrArg Fin.val h; simp only at this; omega)) _
    (fun l => ⟨fun h => ⟨⟨l.val - 10 * j.val, by omega⟩, Fin.ext (by simp only; omega)⟩,
      by rintro ⟨i, rfl⟩; simp only; omega⟩), hc₃]
  refine congrArg (· + c₃ q) (Finset.sum_congr rfl fun i _ => ?_)
  refine congrArg₂ (· * ·) (congrArg x6 ?_) (congrArg (max · 0) (l2 i))
  congr 1 <;> exact Fin.ext (by simp only; omega)

end Cert.Fused

end
-- ==== Proof.Entry.lean ====
module

public import proofs.«01_k».proof.Proof.Block
public import Idealize.ShloMosaic.Lib.StableHlo.ReadAt

@[expose] public section

/-! # The kernel's operands, entry by entry

Before it launches the kernel, the host reshapes the input, reorders the first layer of the per-window net, lays the
transition table out over sixteen rows, and stacks every bias in one column. Each theorem here reads one entry of one of
those arrays back to an entry of an argument. -/

namespace Cert.Fused

open Cert.KernelIdeal Cert.KernelIdeal.Gen Idealize.ShloMosaic Idealize.ShloMosaic.TcCoe

set_option maxRecDepth 65536

/-- The kernel's gather reads, for output row `k` and pair `a`, the table at `k` and at the two words of pair `a`, each
    clamped to `0 … 3`. -/
theorem gatherPair_apply (x : FVec Ideal S4x4x4 .f32) (w : IVec S4x2 32) (k a : Fin 4) :
    Host.gather gather_S4x4x4_S4x2_S4x4_0_12_n_n_12_1_411 x w (ix2 k a)
      = x (ix3 k ⟨min (w (ix2 a 0)).toInt.toNat 3, by omega⟩ ⟨min (w (ix2 a 1)).toInt.toNat 3, by omega⟩) := by
  unfold Host.gather
  congr 1
  funext d
  refine Fin.ext ?_
  show GatherDims.start _ (ix2 k a) w d + GatherDims.batchCoord _ (ix2 k a) d + GatherDims.offCoord _ (ix2 k a) d = _
  rw [GatherDims.batchCoord_eq_zero _ _ _ List.not_mem_nil]
  match d with
  | ⟨0, _⟩ =>
    unfold GatherDims.start
    rw [dif_neg (show (⟨0, by decide⟩ : Fin 3) ∉ gather_S4x4x4_S4x2_S4x4_0_12_n_n_12_1_411.startIndexMap by decide)]
    simp only [Nat.zero_add]
    rfl
  | ⟨1, _⟩ =>
    rw [GatherDims.offCoord_eq_zero _ _ _ (show (⟨1, by decide⟩ : Fin 3) ∉ gather_S4x4x4_S4x2_S4x4_0_12_n_n_12_1_411.sKept by decide)]
    unfold GatherDims.start
    rw [dif_pos (show (⟨1, by decide⟩ : Fin 3) ∈ gather_S4x4x4_S4x2_S4x4_0_12_n_n_12_1_411.startIndexMap by decide)]
    simp only [Nat.add_zero]
    congr 4
    funext b
    match b with
    | ⟨0, _⟩ => rfl
    | ⟨1, _⟩ => rfl
  | ⟨2, _⟩ =>
    rw [GatherDims.offCoord_eq_zero _ _ _ (show (⟨2, by decide⟩ : Fin 3) ∉ gather_S4x4x4_S4x2_S4x4_0_12_n_n_12_1_411.sKept by decide)]
    unfold GatherDims.start
    rw [dif_pos (show (⟨2, by decide⟩ : Fin 3) ∈ gather_S4x4x4_S4x2_S4x4_0_12_n_n_12_1_411.startIndexMap by decide)]
    simp only [Nat.add_zero]
    congr 4
    funext b
    match b with
    | ⟨0, _⟩ => rfl
    | ⟨1, _⟩ => rfl

variable (m : (ℓ : Loc nD τ sig) → Buf (Elt Ideal) ℓ) (c : Dev nD)

/-- The kernel's input is the argument with time and channel on one axis. -/
theorem entry_x (i : Fin 4096) (k : Fin 256) : (V m c main_v0 : FVec Ideal S4096x256 .f32) (ix2 i k)
    = (m (c, Proc.tc.devRef main_arg0) : FVec Ideal S4096x64x4 .f32) (ix3 i ⟨k / 4, by omega⟩ ⟨k % 4, by omega⟩) := by
  entry_read
  pointwise []

/-- The reordered first layer: its column `4 * t + k` is the argument's column `6 * k + t`. -/
theorem entry_v1 (o : Fin 20) (t : Fin 6) (k : Fin 4) :
    (V m c main_v101 : FVec Ideal S20x24 .f32) (ix2 o ⟨4 * t + k, by omega⟩)
      = (m (c, Proc.tc.devRef main_arg7) : FVec Ideal S20x24 .f32) (ix2 o ⟨6 * k + t, by omega⟩) := by
  entry_read
  pointwise []
  congr 2
  exact Fin.ext (by simp only []; omega)

/-- The bias column, by the part an entry lies in. -/
theorem entry_bias (o : Fin 277) : (V m c main_v112 : FVec Ideal S277x1 .f32) (ix2 o 0)
    = if h : (o : ℕ) < 100 then (m (c, Proc.tc.devRef main_arg2) : FVec Ideal S100 .f32) (ix1 ⟨o, h⟩)
      else if h : (o : ℕ) - 100 < 25 then (m (c, Proc.tc.devRef main_arg4) : FVec Ideal S25 .f32) (ix1 ⟨o - 100, h⟩)
      else if h : (o : ℕ) - 125 < 16 then (m (c, Proc.tc.devRef main_arg6) : FVec Ideal S16 .f32) (ix1 ⟨o - 125, h⟩)
      else if _h : (o : ℕ) - 141 < 80 then
        (m (c, Proc.tc.devRef main_arg8) : FVec Ideal S20 .f32) (ix1 ⟨(o - 141) % 20, by omega⟩)
      else if _h : (o : ℕ) - 221 < 40 then
        (m (c, Proc.tc.devRef main_arg10) : FVec Ideal S10 .f32) (ix1 ⟨(o - 221) % 10, by omega⟩)
      else (m (c, Proc.tc.devRef main_arg12) : FVec Ideal S4 .f32) (ix1 ⟨(o - 261) % 4, by omega⟩) := by
  unfold V
  after_reads_simp
  change broadcastInDim S277x1 ![0] bcast_S277_S277x1_0 (concatenate S277 0
    [⟨S100, StableHlo.upto hostOps0 (fun b => m (c, b)) 135 (Proc.tc.devRef main_arg2)⟩,
     ⟨S25, StableHlo.upto hostOps0 (fun b => m (c, b)) 135 (Proc.tc.devRef main_arg4)⟩,
     ⟨S16, StableHlo.upto hostOps0 (fun b => m (c, b)) 135 (Proc.tc.devRef main_arg6)⟩,
     ⟨S80, StableHlo.upto hostOps0 (fun b => m (c, b)) 135 (Proc.tc.devRef main_v104)⟩,
     ⟨S40, StableHlo.upto hostOps0 (fun b => m (c, b)) 135 (Proc.tc.devRef main_v107)⟩,
     ⟨S16, StableHlo.upto hostOps0 (fun b => m (c, b)) 135 (Proc.tc.devRef main_v110)⟩]
     concatenates_S100_S25_S16_S80_S40_S16_S277_d0) (ix2 o 0) = _
  pointwise []
  have e₁ : ∀ i : Fin 80, (StableHlo.upto hostOps0 (fun b => m (c, b)) 135 (Proc.tc.devRef main_v104) :
      FVec Ideal S80 .f32) (ix1 i)
      = (m (c, Proc.tc.devRef main_arg8) : FVec Ideal S20 .f32) (ix1 ⟨i % 20, by omega⟩) := fun i => by
    after_reads_simp
    pointwise []
  have e₂ : ∀ i : Fin 40, (StableHlo.upto hostOps0 (fun b => m (c, b)) 135 (Proc.tc.devRef main_v107) :
      FVec Ideal S40 .f32) (ix1 i)
      = (m (c, Proc.tc.devRef main_arg10) : FVec Ideal S10 .f32) (ix1 ⟨i % 10, by omega⟩) := fun i => by
    after_reads_simp
    pointwise []
  have e₃ : ∀ i : Fin 16, (StableHlo.upto hostOps0 (fun b => m (c, b)) 135 (Proc.tc.devRef main_v110) :
      FVec Ideal S16 .f32) (ix1 i)
      = (m (c, Proc.tc.devRef main_arg12) : FVec Ideal S4 .f32) (ix1 ⟨i % 4, by omega⟩) := fun i => by
    after_reads_simp
    pointwise []
  have e₄ : (StableHlo.upto hostOps0 (fun b => m (c, b)) 135 (Proc.tc.devRef main_arg2) : FVec Ideal S100 .f32)
      = m (c, Proc.tc.devRef main_arg2) := by after_reads_simp
  have e₅ : (StableHlo.upto hostOps0 (fun b => m (c, b)) 135 (Proc.tc.devRef main_arg4) : FVec Ideal S25 .f32)
      = m (c, Proc.tc.devRef main_arg4) := by after_reads_simp
  have e₆ : (StableHlo.upto hostOps0 (fun b => m (c, b)) 135 (Proc.tc.devRef main_arg6) : FVec Ideal S16 .f32)
      = m (c, Proc.tc.devRef main_arg6) := by after_reads_simp
  rw [e₄, e₅, e₆]
  simp only [e₁, e₂, e₃, Nat.sub_sub, Nat.reduceAdd]

/-- One piece of the table's second half: where the two words of row `a` are `a` and `b`, the piece's row `a` holds the
    table's entries at `a`, `b`, the four channels repeated four times over. -/
theorem piece_apply (x : FVec Ideal S4x4x4 .f32) (p q : IVec S4x1 32) (a b : Fin 4) (o : Fin 16)
    (hp : p (ix2 a 0) = BitVec.ofNat 32 a) (hq : q (ix2 a 0) = BitVec.ofNat 32 b) :
    shapeCast S4x16 (broadcastInDim S1x4x4x4 ![0, 1, 2, 3] bcast_S1x4x1x4_S1x4x4x4_0_1_2_3
      (shapeCast S1x4x1x4 (transpose S4x4 [1, 0]
        (Host.gather gather_S4x4x4_S4x2_S4x4_0_12_n_n_12_1_411 x
          (concatenate S4x2 1 [⟨S4x1, p⟩, ⟨S4x1, q⟩] concatenates_S4x1_S4x1_S4x2_d1))
        transposes_S4x4_S4x4_1_0) shapeCasts_S4x4_S1x4x1x4)) shapeCasts_S1x4x4x4_S4x16 (ix2 a o)
      = x (ix3 ⟨o % 4, by omega⟩ a b) := by
  have h0 : concatenate S4x2 1 [⟨S4x1, p⟩, ⟨S4x1, q⟩] concatenates_S4x1_S4x1_S4x2_d1 (ix2 a 0) = BitVec.ofNat 32 a := by
    rw [← hp]; pointwise []
  have h1 : concatenate S4x2 1 [⟨S4x1, p⟩, ⟨S4x1, q⟩] concatenates_S4x1_S4x1_S4x2_d1 (ix2 a 1) = BitVec.ofNat 32 b := by
    rw [← hq]; pointwise []
  have hw : ∀ d : Fin 4, min (BitVec.ofNat 32 d).toInt.toNat 3 = d := by decide
  generalize concatenate S4x2 1 [⟨S4x1, p⟩, ⟨S4x1, q⟩] concatenates_S4x1_S4x1_S4x2_d1 = w at h0 h1 ⊢
  have hg : ∀ k, Host.gather gather_S4x4x4_S4x2_S4x4_0_12_n_n_12_1_411 x w (ix2 k a) = x (ix3 k a b) := by
    intro k
    rw [gatherPair_apply]
    simp only [h0, h1, hw]
  generalize Host.gather gather_S4x4x4_S4x2_S4x4_0_12_n_n_12_1_411 x w = y at hg ⊢
  pointwise []
  exact hg _

/-- The second half of the table: row `4 * s + a` of its transpose holds the table's row `a` at the column that
    neighbour `s` reaches from `a`. -/
theorem entry_pieces (s a : Fin 4) (o : Fin 16) :
    (V m c main_v96 : FVec Ideal S16x16 .f32) (ix2 ⟨4 * s + a, by omega⟩ o)
      = (m (c, Proc.tc.devRef main_arg13) : FVec Ideal S4x4x4 .f32) (ix3 ⟨o % 4, by omega⟩ a (column a 0 s.succ)) := by
  unfold V
  after_reads_simp
  change concatenate S16x16 0
    [⟨S4x16, StableHlo.upto hostOps0 (fun b => m (c, b)) 120 (Proc.tc.devRef main_v41)⟩,
     ⟨S4x16, StableHlo.upto hostOps0 (fun b => m (c, b)) 120 (Proc.tc.devRef main_v59)⟩,
     ⟨S4x16, StableHlo.upto hostOps0 (fun b => m (c, b)) 120 (Proc.tc.devRef main_v77)⟩,
     ⟨S4x16, StableHlo.upto hostOps0 (fun b => m (c, b)) 120 (Proc.tc.devRef main_v95)⟩]
     concatenates_S4x16_S4x16_S4x16_S4x16_S16x16_d0 (ix2 ⟨4 * s + a, by omega⟩ o) = _
  have e1 : ∀ a : Fin 4, (StableHlo.upto hostOps0 (fun b => m (c, b)) 120 (Proc.tc.devRef main_v41) :
      FVec Ideal S4x16 .f32) (ix2 a o)
      = (m (c, Proc.tc.devRef main_arg13) : FVec Ideal S4x4x4 .f32) (ix3 ⟨o % 4, by omega⟩ a (column a 0 1)) := fun a => by
    after_reads_simp
    exact piece_apply _ (StableHlo.upto hostOps0 (fun b => m (c, b)) 48 (Proc.tc.devRef main_v34))
      (StableHlo.upto hostOps0 (fun b => m (c, b)) 48 (Proc.tc.devRef main_v35)) a _ o
      (by after_reads_simp; pointwise []; revert a; decide) (by after_reads_simp; pointwise []; revert a; decide)
  have e2 : ∀ a : Fin 4, (StableHlo.upto hostOps0 (fun b => m (c, b)) 120 (Proc.tc.devRef main_v59) :
      FVec Ideal S4x16 .f32) (ix2 a o)
      = (m (c, Proc.tc.devRef main_arg13) : FVec Ideal S4x4x4 .f32) (ix3 ⟨o % 4, by omega⟩ a (column a 0 2)) := fun a => by
    after_reads_simp
    exact piece_apply _ (StableHlo.upto hostOps0 (fun b => m (c, b)) 70 (Proc.tc.devRef main_v52))
      (StableHlo.upto hostOps0 (fun b => m (c, b)) 70 (Proc.tc.devRef main_v53)) a _ o
      (by after_reads_simp; pointwise []; revert a; decide) (by after_reads_simp; pointwise []; revert a; decide)
  have e3 : ∀ a : Fin 4, (StableHlo.upto hostOps0 (fun b => m (c, b)) 120 (Proc.tc.devRef main_v77) :
      FVec Ideal S4x16 .f32) (ix2 a o)
      = (m (c, Proc.tc.devRef main_arg13) : FVec Ideal S4x4x4 .f32) (ix3 ⟨o % 4, by omega⟩ a (column a 0 3)) := fun a => by
    after_reads_simp
    exact piece_apply _ (StableHlo.upto hostOps0 (fun b => m (c, b)) 92 (Proc.tc.devRef main_v70))
      (StableHlo.upto hostOps0 (fun b => m (c, b)) 92 (Proc.tc.devRef main_v71)) a _ o
      (by after_reads_simp; pointwise []; revert a; decide) (by after_reads_simp; pointwise []; revert a; decide)
  have e4 : ∀ a : Fin 4, (StableHlo.upto hostOps0 (fun b => m (c, b)) 120 (Proc.tc.devRef main_v95) :
      FVec Ideal S4x16 .f32) (ix2 a o)
      = (m (c, Proc.tc.devRef main_arg13) : FVec Ideal S4x4x4 .f32) (ix3 ⟨o % 4, by omega⟩ a (column a 0 4)) := fun a => by
    after_reads_simp
    exact piece_apply _ (StableHlo.upto hostOps0 (fun b => m (c, b)) 114 (Proc.tc.devRef main_v88))
      (StableHlo.upto hostOps0 (fun b => m (c, b)) 114 (Proc.tc.devRef main_v89)) a _ o
      (by after_reads_simp; pointwise []; revert a; decide) (by after_reads_simp; pointwise []; revert a; decide)
  pointwise []
  simp only [e1, e2, e3, e4]
  fin_cases s <;> fin_cases a <;> rfl

/-- The table is its two halves side by side. -/
theorem entry_halves : (V m c main_v98 : FVec Ideal S16x32 .f32) = concatenate S16x32 1
    [⟨S16x16, (V m c main_v6 : FVec Ideal S16x16 .f32)⟩,
     ⟨S16x16, transpose S16x16 [1, 0] (V m c main_v96 : FVec Ideal S16x16 .f32) transposes_S16x16_S16x16_1_0⟩]
    concatenates_S16x16_S16x16_S16x32_d1 := by
  have e₁ : (StableHlo.upto hostOps0 (fun b => m (c, b)) 122 (Proc.tc.devRef main_v6) : FVec Ideal S16x16 .f32)
      = V m c main_v6 := by
    unfold V
    after_reads_simp
  have e₂ : (StableHlo.upto hostOps0 (fun b => m (c, b)) 122 (Proc.tc.devRef main_v97) : FVec Ideal S16x16 .f32)
      = transpose S16x16 [1, 0] (V m c main_v96 : FVec Ideal S16x16 .f32) transposes_S16x16_S16x16_1_0 := by
    unfold V
    after_reads_simp
  rw [← e₁, ← e₂]
  unfold V
  after_reads_simp

/-- The table's first half: row `o` holds, at `4 * a + b`, the table's entry at channel `o mod 4`, row `a`, column
    `b`. -/
theorem entry_table (o : Fin 16) (a b : Fin 4) :
    (V m c main_v98 : FVec Ideal S16x32 .f32) (ix2 o ⟨4 * a + b, by omega⟩)
      = (m (c, Proc.tc.devRef main_arg13) : FVec Ideal S4x4x4 .f32) (ix3 ⟨o % 4, by omega⟩ a b) := by
  rw [entry_halves]
  generalize (V m c main_v96 : FVec Ideal S16x16 .f32) = y
  pointwise []
  rw [dif_pos (by omega)]
  unfold V
  after_reads_simp
  pointwise []
  have h₁ : (4 * (a : ℕ) + b) / 4 = a := by omega
  have h₂ : (4 * (a : ℕ) + b) % 4 = b := by omega
  simp only [h₁, h₂]

/-- The table's second half: row `o` holds, at `16 + (4 * s + a)`, the table's entry at channel `o mod 4`, row `a`, and
    the column that neighbour `s` reaches from `a`. -/
theorem entry_table' (o : Fin 16) (s a b : Fin 4) :
    (V m c main_v98 : FVec Ideal S16x32 .f32) (ix2 o ⟨16 + (4 * s + a), by omega⟩)
      = (m (c, Proc.tc.devRef main_arg13) : FVec Ideal S4x4x4 .f32)
          (ix3 ⟨o % 4, by omega⟩ a (column a b s.succ)) := by
  have hb : column a b s.succ = column a 0 s.succ := by fin_cases s <;> rfl
  rw [entry_halves, hb, ← entry_pieces m c s a o]
  generalize (V m c main_v96 : FVec Ideal S16x16 .f32) = y
  generalize (V m c main_v6 : FVec Ideal S16x16 .f32) = z
  pointwise []

end Cert.Fused

end
-- ==== Proof.Whole.lean ====
module

public import proofs.«01_k».proof.Proof.Spec
public import Idealize.ShloMosaic.Lib.Pointwise

@[expose] public section

/-! # The whole result, entry by entry

`spec` writes the result over the fourteen arguments: the first net on each row of the input, the features of its
sixteen outputs, and the second net on each window of features. -/

namespace Cert.Fused

open Idealize.ShloMosaic

/-- Row `i` of the input, time and channel on one axis. -/
noncomputable def inputRow (x : FVec Ideal ⟨3, ![4096, 64, 4]⟩ .f32) (i : Fin 4096) (k : Fin 256) : EReal :=
  x (ix3 i ⟨k / 4, by omega⟩ ⟨k % 4, by omega⟩)

/-- The sixteen outputs of the first net on row `i`. -/
noncomputable def firstRow (x : FVec Ideal ⟨3, ![4096, 64, 4]⟩ .f32) (W₁ : FVec Ideal ⟨2, ![100, 256]⟩ .f32) (b₁ : FVec Ideal ⟨1, ![100]⟩ .f32)
    (W₂ : FVec Ideal ⟨2, ![25, 100]⟩ .f32) (b₂ : FVec Ideal ⟨1, ![25]⟩ .f32) (W₃ : FVec Ideal ⟨2, ![16, 25]⟩ .f32) (b₃ : FVec Ideal ⟨1, ![16]⟩ .f32)
    (i : Fin 4096) : Fin 16 → EReal :=
  net (fun a b => W₁ (ix2 a b)) (fun a => b₁ (ix1 a)) (fun a b => W₂ (ix2 a b)) (fun a => b₂ (ix1 a))
    (fun a b => W₃ (ix2 a b)) (fun a => b₃ (ix1 a)) (inputRow x i)

/-- The result at row `i`, window `j`, output `q`. -/
noncomputable def spec (x : FVec Ideal ⟨3, ![4096, 64, 4]⟩ .f32) (W₁ : FVec Ideal ⟨2, ![100, 256]⟩ .f32) (b₁ : FVec Ideal ⟨1, ![100]⟩ .f32)
    (W₂ : FVec Ideal ⟨2, ![25, 100]⟩ .f32) (b₂ : FVec Ideal ⟨1, ![25]⟩ .f32) (W₃ : FVec Ideal ⟨2, ![16, 25]⟩ .f32) (b₃ : FVec Ideal ⟨1, ![16]⟩ .f32)
    (V₁ : FVec Ideal ⟨2, ![20, 24]⟩ .f32) (c₁ : FVec Ideal ⟨1, ![20]⟩ .f32) (V₂ : FVec Ideal ⟨2, ![10, 20]⟩ .f32) (c₂ : FVec Ideal ⟨1, ![10]⟩ .f32)
    (V₃ : FVec Ideal ⟨2, ![4, 10]⟩ .f32) (c₃ : FVec Ideal ⟨1, ![4]⟩ .f32) (T : FVec Ideal ⟨3, ![4, 4, 4]⟩ .f32)
    (i : Fin 4096) (j q : Fin 4) : EReal :=
  net (fun a b => V₁ (ix2 a b)) (fun a => c₁ (ix1 a)) (fun a b => V₂ (ix2 a b)) (fun a => c₂ (ix1 a))
    (fun a b => V₃ (ix2 a b)) (fun a => c₃ (ix1 a))
    (features (fun k a b => T (ix3 k a b)) (inputRow x i) (firstRow x W₁ b₁ W₂ b₂ W₃ b₃ i) j) q

end Cert.Fused

end
-- ==== Proof.Array.lean ====
module

public import proofs.«01_k».proof.Proof.Entry
public import proofs.«01_k».proof.Proof.Whole
public import proofs.«01_k».proof.Proof.Gen.KernelIdeal.Value
public import Idealize.ShloMosaic.Lib.Pipeline.ValueKit

@[expose] public section

/-! # What the kernel leaves in its result

The two grid points tile the result's 4096 rows, and each writes `spec` on its rows; so the array the kernel leaves is
`spec`. -/

namespace Cert.Fused

open Cert.KernelIdeal Cert.KernelIdeal.Gen Idealize.ShloMosaic Idealize.ShloMosaic.TcCoe

set_option maxRecDepth 65536

variable (m : (ℓ : Loc nD τ sig) → Buf (Elt Ideal) ℓ) (c : Dev nD)

/-- The input's and the result's blocks move down the rows; every other operand is one block. -/
theorem idx : ∀ t : Fin cfg0.N, win0_0.index t = ![(grid0.coords t 0).val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![(grid0.coords t 0).val, 0] :=
  (by decide +kernel : ∀ t : Fin grid0.N, _)

/-- Row `r` of the input's block at point `t` is row `2048 * t + r` of the input. -/
theorem block_x (t : Fin cfg0.N) (r : Fin 2048) (i : Fin 4096) (hi : (i : ℕ) = (grid0.coords t 0).val * 2048 + r)
    (k : Fin 256) : iblk m c 0 t (ix2 r k) = (V m c main_v0 : FVec Ideal S4096x256 .f32) (ix2 i k) := by
  blk_ext [iblk, idx t]

/-- The first layer of the first net is one block. -/
theorem block_1 (t : Fin cfg0.N) : iblk m c 1 t = (m (c, Proc.tc.devRef main_arg1) : FVec Ideal S100x256 .f32) := by
  blk_ext! [iblk, V, idx t]

/-- The second layer of the first net is one block. -/
theorem block_2 (t : Fin cfg0.N) : iblk m c 2 t = (m (c, Proc.tc.devRef main_arg3) : FVec Ideal S25x100 .f32) := by
  blk_ext! [iblk, V, idx t]

/-- The third layer of the first net is one block. -/
theorem block_3 (t : Fin cfg0.N) : iblk m c 3 t = (m (c, Proc.tc.devRef main_arg5) : FVec Ideal S16x25 .f32) := by
  blk_ext! [iblk, V, idx t]

/-- The reordered first layer of the second net is one block. -/
theorem block_4 (t : Fin cfg0.N) : iblk m c 4 t = (V m c main_v101 : FVec Ideal S20x24 .f32) := by
  blk_ext! [iblk, idx t]

/-- The second layer of the second net is one block. -/
theorem block_5 (t : Fin cfg0.N) : iblk m c 5 t = (m (c, Proc.tc.devRef main_arg9) : FVec Ideal S10x20 .f32) := by
  blk_ext! [iblk, V, idx t]

/-- The third layer of the second net is one block. -/
theorem block_6 (t : Fin cfg0.N) : iblk m c 6 t = (m (c, Proc.tc.devRef main_arg11) : FVec Ideal S4x10 .f32) := by
  blk_ext! [iblk, V, idx t]

/-- The bias column is one block. -/
theorem block_7 (t : Fin cfg0.N) : iblk m c 7 t = (V m c main_v112 : FVec Ideal S277x1 .f32) := by
  blk_ext! [iblk, idx t]

/-- The table is one block. -/
theorem block_8 (t : Fin cfg0.N) : iblk m c 8 t = (V m c main_v98 : FVec Ideal S16x32 .f32) := by
  blk_ext! [iblk, idx t]

/-- The bias column at an index of each of its parts. -/
theorem entry_bias_parts :
    (∀ a : Fin 100, (V m c main_v112 : FVec Ideal S277x1 .f32) (ix2 ⟨a, by omega⟩ 0)
      = (m (c, Proc.tc.devRef main_arg2) : FVec Ideal S100 .f32) (ix1 a))
    ∧ (∀ a : Fin 25, (V m c main_v112 : FVec Ideal S277x1 .f32) (ix2 ⟨100 + a, by omega⟩ 0)
      = (m (c, Proc.tc.devRef main_arg4) : FVec Ideal S25 .f32) (ix1 a))
    ∧ (∀ a : Fin 16, (V m c main_v112 : FVec Ideal S277x1 .f32) (ix2 ⟨125 + a, by omega⟩ 0)
      = (m (c, Proc.tc.devRef main_arg6) : FVec Ideal S16 .f32) (ix1 a))
    ∧ (∀ (j : Fin 4) (o : Fin 20), (V m c main_v112 : FVec Ideal S277x1 .f32) (ix2 ⟨141 + (20 * j + o), by omega⟩ 0)
      = (m (c, Proc.tc.devRef main_arg8) : FVec Ideal S20 .f32) (ix1 o))
    ∧ (∀ (j : Fin 4) (o : Fin 10), (V m c main_v112 : FVec Ideal S277x1 .f32) (ix2 ⟨221 + (10 * j + o), by omega⟩ 0)
      = (m (c, Proc.tc.devRef main_arg10) : FVec Ideal S10 .f32) (ix1 o))
    ∧ ∀ (j : Fin 4) (o : Fin 4), (V m c main_v112 : FVec Ideal S277x1 .f32) (ix2 ⟨261 + (4 * j + o), by omega⟩ 0)
      = (m (c, Proc.tc.devRef main_arg12) : FVec Ideal S4 .f32) (ix1 o) := by
  refine ⟨fun a => ?_, fun a => ?_, fun a => ?_, fun j o => ?_, fun j o => ?_, fun j o => ?_⟩ <;> rw [entry_bias]
  · rw [dif_pos a.isLt]
  · rw [dif_neg (by simp only []; omega), dif_pos (by simp only []; omega)]
    congr 2
    exact Fin.ext (by simp only []; omega)
  · rw [dif_neg (by simp only []; omega), dif_neg (by simp only []; omega), dif_pos (by simp only []; omega)]
    congr 2
    exact Fin.ext (by simp only []; omega)
  · rw [dif_neg (by simp only []; omega), dif_neg (by simp only []; omega), dif_neg (by simp only []; omega),
      dif_pos (by simp only []; omega)]
    congr 2
    exact Fin.ext (by simp only []; omega)
  · rw [dif_neg (by simp only []; omega), dif_neg (by simp only []; omega), dif_neg (by simp only []; omega),
      dif_neg (by simp only []; omega), dif_pos (by simp only []; omega)]
    congr 2
    exact Fin.ext (by simp only []; omega)
  · rw [dif_neg (by simp only []; omega), dif_neg (by simp only []; omega), dif_neg (by simp only []; omega),
      dif_neg (by simp only []; omega), dif_neg (by simp only []; omega)]
    congr 2
    exact Fin.ext (by simp only []; omega)

/-- The kernel's result as one function of its arguments. -/
noncomputable abbrev result : FVec Ideal S4096x16 .f32 := fun i =>
  spec (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10)) (m (c, Proc.tc.devRef main_arg11))
    (m (c, Proc.tc.devRef main_arg12)) (m (c, Proc.tc.devRef main_arg13))
    (i 0) ⟨(i 1 : ℕ) / 4, by have := ValueIdx.idx2_lt1 i; omega⟩ ⟨(i 1 : ℕ) % 4, by omega⟩

/-- A grid point writes `spec` on its rows. -/
theorem point (t : Fin cfg0.N) (r : Fin 2048) (i : Fin 4096) (hi : (i : ℕ) = (grid0.coords t 0).val * 2048 + r)
    (k : Fin 16) :
    out0_9 (iblk m c 0 t) (iblk m c 1 t) (iblk m c 2 t) (iblk m c 3 t) (iblk m c 4 t) (iblk m c 5 t) (iblk m c 6 t)
      (iblk m c 7 t) (iblk m c 8 t) (ix2 r k) = result m c (ix2 i k) := by
  obtain ⟨h₁, h₂, h₃, h₄, h₅, h₆⟩ := entry_bias_parts m c
  have hk : (⟨4 * ((k : ℕ) / 4) + (k : ℕ) % 4, by omega⟩ : Fin 16) = k := Fin.ext (by simp only []; omega)
  have hx : (fun k : Fin 256 => iblk m c 0 t (ix2 r k)) = inputRow (m (c, Proc.tc.devRef main_arg0)) i := by
    funext k
    rw [block_x m c t r i hi, entry_x]
    rfl
  rw [block_1, block_2, block_3, block_4, block_5, block_6, block_7, block_8]
  have h := out_apply (iblk m c 0 t) (m (c, Proc.tc.devRef main_arg1)) (m (c, Proc.tc.devRef main_arg3))
    (m (c, Proc.tc.devRef main_arg5)) (V m c main_v101) (m (c, Proc.tc.devRef main_arg9))
    (m (c, Proc.tc.devRef main_arg11)) (V m c main_v112) (V m c main_v98)
    (fun k a b => (m (c, Proc.tc.devRef main_arg13) : FVec Ideal S4x4x4 .f32) (ix3 k a b))
    (fun a b => (m (c, Proc.tc.devRef main_arg7) : FVec Ideal S20x24 .f32) (ix2 a b))
    (fun a => (m (c, Proc.tc.devRef main_arg8) : FVec Ideal S20 .f32) (ix1 a))
    (fun a => (m (c, Proc.tc.devRef main_arg10) : FVec Ideal S10 .f32) (ix1 a))
    (fun a => (m (c, Proc.tc.devRef main_arg12) : FVec Ideal S4 .f32) (ix1 a))
    (entry_v1 m c) h₄ h₅ h₆ (entry_table m c) (entry_table' m c) r ⟨(k : ℕ) / 4, by omega⟩ ⟨(k : ℕ) % 4, by omega⟩
  simp only [hk] at h
  rw [h]
  unfold firstOf
  simp only [h₁, h₂, h₃, hx]
  rfl

/-- The array the kernel leaves in its result is `spec`. -/
theorem final : (dats m 0 c).arrAt 9 cfg0.N = result m c := by
  refine (dats m 0 c).arrAt_eq_of_covers 9 _ (by decide +kernel) fun t hf y => ?_
  blk_simp
  rw [after0_9]
  have h₀ : (((win0_9.blk t).view.emb y 0 : Fin 4096) : ℕ) = (grid0.coords t 0).val * 2048 + (y 0 : Fin 2048) := by
    blk_simp [idx t]
  have h₁ : (((win0_9.blk t).view.emb y 1 : Fin 16) : ℕ) = (y 1 : Fin 16) := by
    blk_simp [idx t]
  have e : (win0_9.blk t).view.emb y = (ix2 ((win0_9.blk t).view.emb y 0) (y 1) : S4096x16.Idx) := by
    funext a
    match a with
    | ⟨0, _⟩ => rfl
    | ⟨1, _⟩ => exact Fin.ext h₁
  have e' : y = ix2 (y 0 : Fin 2048) (y 1 : Fin 16) := by
    funext a
    match a with
    | ⟨0, _⟩ => rfl
    | ⟨1, _⟩ => rfl
  rw [e]
  exact (congrArg _ e').trans (point m c t (y 0) _ h₀ (y 1))

end Cert.Fused

end
-- ==== Proof.RefNets.lean ====
module

public import proofs.«01_k».proof.Proof.Whole
public import proofs.«01_k».proof.Proof.Consts
public import proofs.«01_k».proof.Proof.Gen.ReferenceIdeal.Read

@[expose] public section

/-! # The two nets of the reference

Each theorem reads one entry of the output of one of the two nets: it is `net` of the entry's row. -/

namespace Cert.Fused

open Cert.ReferenceIdeal Cert.ReferenceIdeal.Gen Cert.ReferenceIdeal.Read Idealize.ShloMosaic Idealize.ShloMosaic.TcCoe

set_option maxRecDepth 65536

set_option maxHeartbeats 4000000 in
/-- Output `r` of the reference's first net on row `i`. -/
theorem ref_first (x : FVec Ideal S4096x64x4 .f32) (W₁ : FVec Ideal S100x256 .f32) (b₁ : FVec Ideal S100 .f32)
    (W₂ : FVec Ideal S25x100 .f32) (b₂ : FVec Ideal S25 .f32) (W₃ : FVec Ideal S16x25 .f32) (b₃ : FVec Ideal S16 .f32)
    (i : Fin 4096) (r : Fin 16) :
    val_main_v17 (F := Ideal) x W₁ b₁ W₂ b₂ W₃ b₃ (ix2 i r) = firstRow x W₁ b₁ W₂ b₂ W₃ b₃ i r := by
  pointwise [val_main_v17, val_main_v16, val_main_v15, val_main_v14, val_main_v13, val_main_v12, val_main_call1_v0,
    val_main_call1_cst, val_main_v11, val_main_v10, val_main_v9, val_main_v8, val_main_v7, val_main_v6,
    val_main_call0_v0, val_main_call0_cst, val_main_v5, val_main_v4, val_main_v3, val_main_v2, val_main_v1, val_main_v0]
  simp only [firstRow, net, dense, relu, inputRow, mul_comm]

set_option maxHeartbeats 4000000 in
/-- Output `q` of the reference's second net on row `i`, window `j`, from the window's features. -/
theorem ref_second (x : FVec Ideal S4096x64x4 .f32) (W₁ : FVec Ideal S100x256 .f32) (b₁ : FVec Ideal S100 .f32)
    (W₂ : FVec Ideal S25x100 .f32) (b₂ : FVec Ideal S25 .f32) (W₃ : FVec Ideal S16x25 .f32) (b₃ : FVec Ideal S16 .f32)
    (V₁ : FVec Ideal S20x24 .f32) (c₁ : FVec Ideal S20 .f32) (V₂ : FVec Ideal S10x20 .f32) (c₂ : FVec Ideal S10 .f32)
    (V₃ : FVec Ideal S4x10 .f32) (c₃ : FVec Ideal S4 .f32) (T : FVec Ideal S4x4x4 .f32) (i : Fin 4096) (j q : Fin 4) :
    val_main_v189 (F := Ideal) x W₁ b₁ W₂ b₂ W₃ b₃ V₁ c₁ V₂ c₂ V₃ c₃ T (ix2 i ⟨4 * j + q, by omega⟩)
      = net (fun a b => V₁ (ix2 a b)) (fun a => c₁ (ix1 a)) (fun a b => V₂ (ix2 a b)) (fun a => c₂ (ix1 a))
          (fun a b => V₃ (ix2 a b)) (fun a => c₃ (ix1 a))
          (fun k => (val_main_v171 (F := Ideal) x W₁ b₁ W₂ b₂ W₃ b₃ T : FVec Ideal S4096x4x24 .f32) (ix3 i j k)) q := by
  unfold val_main_v189 val_main_v188 val_main_v185 val_main_v183 val_main_v182 val_main_v179 val_main_v177
    val_main_v176 val_main_v173
  generalize val_main_v171 (F := Ideal) x W₁ b₁ W₂ b₂ W₃ b₃ T = y
  pointwise [val_main_v172, val_main_v175, val_main_v174, val_main_call7_v0, val_main_call7_cst, val_main_v178,
    val_main_v181, val_main_v180, val_main_call8_v0, val_main_call8_cst, val_main_v184, val_main_v187, val_main_v186]
  have h₁ : (4 * (j : ℕ) + q) / 4 = j := by omega
  have h₂ : (4 * (j : ℕ) + q) % 4 = q := by omega
  simp only [net, dense, relu, mul_comm, h₁, h₂]

end Cert.Fused

end
-- ==== Proof.RefStates.lean ====
module

public import proofs.«01_k».proof.Proof.RefNets

@[expose] public section

/-! # The states that the reference looks up

The reference rounds the entry before and the entry itself to levels `0 … 3`, moves the first level one and two up and
down, and converts each to a word. Each theorem reads one of those words. -/

namespace Cert.Fused

open Cert.ReferenceIdeal Cert.ReferenceIdeal.Gen Cert.ReferenceIdeal.Read Idealize.ShloMosaic Idealize.ShloMosaic.TcCoe

set_option maxRecDepth 65536

/-- The reference's own rounding of `y` is `level y`. -/
theorem level_ref (y : EReal) :
    min (FloatOps.sitofp (F := Ideal) FTy.f32 3#32) (max (FloatOps.sitofp (F := Ideal) FTy.f32 0#32)
      (Ideal.liftRound Ideal.roundHalfEven (Ideal.div (y + Ideal.ofBits FTy.f32 0x40000000#32) 1))) = level y := by
  have h₃ : FloatOps.sitofp (F := Ideal) FTy.f32 3#32 = (((3 : ℕ) : ℝ) : EReal) := by
    show ((((3#32 : BitVec 32).toInt : ℤ) : ℝ) : EReal) = _
    rw [show (3#32 : BitVec 32).toInt = 3 by decide]; norm_num
  have h₀ : FloatOps.sitofp (F := Ideal) FTy.f32 0#32 = (((0 : ℕ) : ℝ) : EReal) := by
    show ((((0#32 : BitVec 32).toInt : ℤ) : ℝ) : EReal) = _
    rw [show (0#32 : BitVec 32).toInt = 0 by decide]; norm_num
  have h₁ : ∀ z : EReal, Ideal.div z 1 = z := by
    intro z
    rw [Ideal.div, if_neg one_ne_zero, inv_one, mul_one]
  rw [h₃, h₀, h₁, bits_two]
  rfl

/-- A state as a number converts to the state as a word. -/
theorem word_ref (a : Fin 4) : FloatOps.fptosi (F := Ideal) (φ := FTy.f32) 32 (((a : ℕ) : ℝ) : EReal) = BitVec.ofNat 32 a := by
  show Ideal.fptosi 32 _ = _
  rw [Ideal.fptosi, Ideal.toIntClamped_coe, if_pos (Nat.cast_nonneg _), Int.floor_natCast]
  fin_cases a <;> rfl

/-- A state moved up by `d` and held at three. -/
theorem up_ref (a : Fin 4) (d : ℕ) : min ((((a : ℕ) : ℝ) : EReal) + ((d : ℝ) : EReal)) (((3 : ℕ) : ℝ) : EReal)
    = (((min (a + d) 3 : ℕ) : ℝ) : EReal) := by
  rw [← EReal.coe_add, ← Nat.cast_add, ← EReal.coe_strictMono.monotone.map_min, ← Nat.cast_min]

/-- A state moved down by `d` and held at zero. -/
theorem down_ref (a : Fin 4) (d : ℕ) : max ((((a : ℕ) : ℝ) : EReal) - ((d : ℝ) : EReal)) (((0 : ℕ) : ℝ) : EReal)
    = (((a - d : ℕ) : ℝ) : EReal) := by
  rw [← EReal.coe_sub, ← EReal.coe_strictMono.monotone.map_max]
  congr 1
  rcases le_total d a with h | h
  · rw [Nat.cast_sub h, Nat.cast_zero, max_eq_left]
    have : (d : ℝ) ≤ ((a : ℕ) : ℝ) := Nat.cast_le.mpr h
    linarith
  · rw [Nat.sub_eq_zero_of_le h, Nat.cast_zero, max_eq_right]
    have : ((a : ℕ) : ℝ) ≤ (d : ℝ) := Nat.cast_le.mpr h
    linarith

variable (x : FVec Ideal S4096x64x4 .f32) (W₁ : FVec Ideal S100x256 .f32) (b₁ : FVec Ideal S100 .f32)
  (W₂ : FVec Ideal S25x100 .f32) (b₂ : FVec Ideal S25 .f32) (W₃ : FVec Ideal S16x25 .f32) (b₃ : FVec Ideal S16 .f32)
  (i : Fin 4096) (j k : Fin 4)

/-- The first net's outputs, four to a window. -/
theorem ref_entry : (val_main_v18 (F := Ideal) x W₁ b₁ W₂ b₂ W₃ b₃ : FVec Ideal S4096x4x4 .f32) (ix3 i j k)
    = firstRow x W₁ b₁ W₂ b₂ W₃ b₃ i ⟨4 * j + k, by omega⟩ := by
  rw [← ref_first]
  unfold val_main_v18
  generalize val_main_v17 (F := Ideal) x W₁ b₁ W₂ b₂ W₃ b₃ = y
  pointwise []
  simp only [mul_comm (j : ℕ) 4]

/-- The entry before each output. -/
theorem ref_before : (val_main_v21 (F := Ideal) x W₁ b₁ W₂ b₂ W₃ b₃ : FVec Ideal S4096x4x4 .f32) (ix3 i j k)
    = before (inputRow x i) (firstRow x W₁ b₁ W₂ b₂ W₃ b₃ i) ⟨4 * j + k, by omega⟩ := by
  unfold val_main_v21 val_main_v20 val_main_v19
  have h := ref_entry x W₁ b₁ W₂ b₂ W₃ b₃ i
  generalize val_main_v18 (F := Ideal) x W₁ b₁ W₂ b₂ W₃ b₃ = y at h ⊢
  pointwise []
  simp only [h]
  unfold before inputRow
  by_cases hj : (j : ℕ) < 1
  · rw [dif_pos hj, dif_pos (show 4 * (j : ℕ) + k < 4 by omega)]
    congr 2 <;> exact Fin.ext (by simp only []; omega)
  · rw [dif_neg hj, dif_neg (show ¬ 4 * (j : ℕ) + k < 4 by omega)]
    congr 1
    exact Fin.ext (by simp only []; omega)

/-- The level of the entry before. -/
theorem ref_levelBefore : (val_main_v27 (F := Ideal) x W₁ b₁ W₂ b₂ W₃ b₃ : FVec Ideal S4096x4x4 .f32) (ix3 i j k)
    = level (before (inputRow x i) (firstRow x W₁ b₁ W₂ b₂ W₃ b₃ i) ⟨4 * j + k, by omega⟩) := by
  rw [← ref_before]
  unfold val_main_v27 val_main_call3_v2 val_main_v26 val_main_v25 val_main_v23
  generalize val_main_v21 (F := Ideal) x W₁ b₁ W₂ b₂ W₃ b₃ = y
  pointwise [val_main_call3_v4, val_main_call3_v3, val_main_c_1, val_main_call3_v1, val_main_call3_v0, val_main_c,
    val_main_v24, val_main_cst_0, val_main_v22, val_main_cst]
  exact level_ref _

/-- The level of the entry. -/
theorem ref_level : (val_main_v33 (F := Ideal) x W₁ b₁ W₂ b₂ W₃ b₃ : FVec Ideal S4096x4x4 .f32) (ix3 i j k)
    = level (firstRow x W₁ b₁ W₂ b₂ W₃ b₃ i ⟨4 * j + k, by omega⟩) := by
  rw [← ref_entry]
  unfold val_main_v33 val_main_call5_v2 val_main_v32 val_main_v31 val_main_v29
  generalize val_main_v18 (F := Ideal) x W₁ b₁ W₂ b₂ W₃ b₃ = y
  pointwise [val_main_call5_v4, val_main_call5_v3, val_main_c_5, val_main_call5_v1, val_main_call5_v0, val_main_c_4,
    val_main_v30, val_main_cst_3, val_main_v28, val_main_cst_2]
  exact level_ref _

/-- The state before, of window `j`'s channel `k` on row `i`. -/
noncomputable abbrev stateBefore : Fin 4 :=
  state (before (inputRow x i) (firstRow x W₁ b₁ W₂ b₂ W₃ b₃ i) ⟨4 * j + k, by omega⟩)

/-- The state of window `j`'s channel `k` on row `i`. -/
noncomputable abbrev stateHere : Fin 4 := state (firstRow x W₁ b₁ W₂ b₂ W₃ b₃ i ⟨4 * j + k, by omega⟩)

/-- The word of the state before. -/
theorem ref_word : (val_main_v52 (F := Ideal) x W₁ b₁ W₂ b₂ W₃ b₃ : IVec S4096x4x4 32) (ix3 i j k)
    = BitVec.ofNat 32 (stateBefore x W₁ b₁ W₂ b₂ W₃ b₃ i j k) := by
  rw [← word_ref, ← level_eq, ← ref_levelBefore]
  rfl

/-- The word of the first column: the state itself. -/
theorem ref_column0 : (val_main_v53 (F := Ideal) x W₁ b₁ W₂ b₂ W₃ b₃ : IVec S4096x4x4 32) (ix3 i j k)
    = BitVec.ofNat 32 (stateHere x W₁ b₁ W₂ b₂ W₃ b₃ i j k) := by
  rw [← word_ref, ← level_eq, ← ref_level]
  rfl

/-- The word of the second column: one above the state before. -/
theorem ref_column1 (b : Fin 4) : (val_main_v75 (F := Ideal) x W₁ b₁ W₂ b₂ W₃ b₃ : IVec S4096x4x4 32) (ix3 i j k)
    = BitVec.ofNat 32 (column (stateBefore x W₁ b₁ W₂ b₂ W₃ b₃ i j k) b 1) := by
  have h := ref_levelBefore x W₁ b₁ W₂ b₂ W₃ b₃ i j k
  rw [level_eq] at h
  unfold val_main_v75 val_main_v37 val_main_v35
  generalize val_main_v27 (F := Ideal) x W₁ b₁ W₂ b₂ W₃ b₃ = y at h ⊢
  pointwise [val_main_v36, val_main_cst_7, val_main_v34, val_main_cst_6]
  rw [h, bits_three, one_eq, up_ref]
  exact word_ref (column _ b 1)

/-- The word of the third column: one below the state before. -/
theorem ref_column2 (b : Fin 4) : (val_main_v97 (F := Ideal) x W₁ b₁ W₂ b₂ W₃ b₃ : IVec S4096x4x4 32) (ix3 i j k)
    = BitVec.ofNat 32 (column (stateBefore x W₁ b₁ W₂ b₂ W₃ b₃ i j k) b 2) := by
  have h := ref_levelBefore x W₁ b₁ W₂ b₂ W₃ b₃ i j k
  rw [level_eq] at h
  unfold val_main_v97 val_main_v41 val_main_v39
  generalize val_main_v27 (F := Ideal) x W₁ b₁ W₂ b₂ W₃ b₃ = y at h ⊢
  pointwise [val_main_v40, val_main_cst_9, val_main_v38, val_main_cst_8]
  rw [h, zero_eq, one_eq, down_ref]
  exact word_ref (column _ b 2)

/-- The word of the fourth column: two above the state before. -/
theorem ref_column3 (b : Fin 4) : (val_main_v119 (F := Ideal) x W₁ b₁ W₂ b₂ W₃ b₃ : IVec S4096x4x4 32) (ix3 i j k)
    = BitVec.ofNat 32 (column (stateBefore x W₁ b₁ W₂ b₂ W₃ b₃ i j k) b 3) := by
  have h := ref_levelBefore x W₁ b₁ W₂ b₂ W₃ b₃ i j k
  rw [level_eq] at h
  unfold val_main_v119 val_main_v45 val_main_v43
  generalize val_main_v27 (F := Ideal) x W₁ b₁ W₂ b₂ W₃ b₃ = y at h ⊢
  pointwise [val_main_v44, val_main_cst_11, val_main_v42, val_main_cst_10]
  rw [h, bits_three, bits_two, up_ref]
  exact word_ref (column _ b 3)

/-- The word of the fifth column: two below the state before. -/
theorem ref_column4 (b : Fin 4) : (val_main_v141 (F := Ideal) x W₁ b₁ W₂ b₂ W₃ b₃ : IVec S4096x4x4 32) (ix3 i j k)
    = BitVec.ofNat 32 (column (stateBefore x W₁ b₁ W₂ b₂ W₃ b₃ i j k) b 4) := by
  have h := ref_levelBefore x W₁ b₁ W₂ b₂ W₃ b₃ i j k
  rw [level_eq] at h
  unfold val_main_v141 val_main_v49 val_main_v47
  generalize val_main_v27 (F := Ideal) x W₁ b₁ W₂ b₂ W₃ b₃ = y at h ⊢
  pointwise [val_main_v48, val_main_cst_13, val_main_v46, val_main_cst_12]
  rw [h, zero_eq, bits_two, down_ref]
  exact word_ref (column _ b 4)

end Cert.Fused

end
-- ==== Proof.RefLookup.lean ====
module

public import proofs.«01_k».proof.Proof.RefStates

@[expose] public section

/-! # The reference's five lookups in the table

The reference gathers the table at triples of words: the channel, the state before, and one of five columns. Words below
zero would count from the end; these are never below zero. -/

namespace Cert.Fused

open Cert.ReferenceIdeal Cert.ReferenceIdeal.Gen Cert.ReferenceIdeal.Read Idealize.ShloMosaic Idealize.ShloMosaic.TcCoe

set_option maxRecDepth 65536

/-- The reference's gather reads the table at the three words of the output's index, each clamped to `0 … 3`. -/
theorem gatherTriple_apply (T : FVec Ideal S4x4x4 .f32) (w : IVec S4096x4x4x3 32) (i : Fin 4096) (j k : Fin 4) :
    Host.gather gather_S4x4x4_S4096x4x4x3_S4096x4x4_n_012_n_n_012_3_111 T w (ix3 i j k)
      = T (ix3 ⟨min (w (ix4 i j k 0)).toInt.toNat 3, by omega⟩ ⟨min (w (ix4 i j k 1)).toInt.toNat 3, by omega⟩
          ⟨min (w (ix4 i j k 2)).toInt.toNat 3, by omega⟩) := by
  have hs : ∀ n : Fin 3, GatherDims.siIdx gather_S4x4x4_S4096x4x4x3_S4096x4x4_n_012_n_n_012_3_111 (ix3 i j k) n
      = (ix4 i j k n : S4096x4x4x3.Idx) := by
    intro n
    funext b
    match b with
    | ⟨0, _⟩ => rfl
    | ⟨1, _⟩ => rfl
    | ⟨2, _⟩ => rfl
    | ⟨3, _⟩ => rfl
  unfold Host.gather
  congr 1
  funext d
  refine Fin.ext ?_
  show GatherDims.start _ (ix3 i j k) w d + GatherDims.batchCoord _ (ix3 i j k) d
    + GatherDims.offCoord _ (ix3 i j k) d = _
  rw [GatherDims.batchCoord_eq_zero _ _ _ List.not_mem_nil]
  match d with
  | ⟨0, _⟩ =>
    rw [GatherDims.offCoord_eq_zero _ _ _ (show (⟨0, by decide⟩ : Fin 3) ∉ gather_S4x4x4_S4096x4x4x3_S4096x4x4_n_012_n_n_012_3_111.sKept by decide)]
    unfold GatherDims.start
    rw [dif_pos (show (⟨0, by decide⟩ : Fin 3) ∈ gather_S4x4x4_S4096x4x4x3_S4096x4x4_n_012_n_n_012_3_111.startIndexMap by decide)]
    simp only [Nat.add_zero]
    congr 4
    exact hs _
  | ⟨1, _⟩ =>
    rw [GatherDims.offCoord_eq_zero _ _ _ (show (⟨1, by decide⟩ : Fin 3) ∉ gather_S4x4x4_S4096x4x4x3_S4096x4x4_n_012_n_n_012_3_111.sKept by decide)]
    unfold GatherDims.start
    rw [dif_pos (show (⟨1, by decide⟩ : Fin 3) ∈ gather_S4x4x4_S4096x4x4x3_S4096x4x4_n_012_n_n_012_3_111.startIndexMap by decide)]
    simp only [Nat.add_zero]
    congr 4
    exact hs _
  | ⟨2, _⟩ =>
    rw [GatherDims.offCoord_eq_zero _ _ _ (show (⟨2, by decide⟩ : Fin 3) ∉ gather_S4x4x4_S4096x4x4x3_S4096x4x4_n_012_n_n_012_3_111.sKept by decide)]
    unfold GatherDims.start
    rw [dif_pos (show (⟨2, by decide⟩ : Fin 3) ∈ gather_S4x4x4_S4096x4x4x3_S4096x4x4_n_012_n_n_012_3_111.startIndexMap by decide)]
    simp only [Nat.add_zero]
    congr 4
    exact hs _

/-- Where the words of `p` and `q` at an index are `a` and `b`, the table gathered at the channel, `p` and `q` has there
    the entry at the channel, `a` and `b`. -/
theorem tableAt_apply (T : FVec Ideal S4x4x4 .f32) (p q : IVec S4096x4x4 32) (i : Fin 4096) (j k a b : Fin 4)
    (hp : p (ix3 i j k) = BitVec.ofNat 32 a) (hq : q (ix3 i j k) = BitVec.ofNat 32 b) :
    Host.gather gather_S4x4x4_S4096x4x4x3_S4096x4x4_n_012_n_n_012_3_111 T
      (concatenate S4096x4x4x3 3
        [⟨S4096x4x4x1, (val_main_v70 (F := Ideal) : IVec S4096x4x4x1 32)⟩,
         ⟨S4096x4x4x1, broadcastInDim S4096x4x4x1 ![0, 1, 2] bcast_S4096x4x4_S4096x4x4x1_0_1_2
          (select (cmpi .slt p (val_main_v59 (F := Ideal))) (addi p (val_main_v61 (F := Ideal))) p)⟩,
         ⟨S4096x4x4x1, broadcastInDim S4096x4x4x1 ![0, 1, 2] bcast_S4096x4x4_S4096x4x4x1_0_1_2
          (select (cmpi .slt q (val_main_v59 (F := Ideal))) (addi q (val_main_v61 (F := Ideal))) q)⟩]
        concatenates_S4096x4x4x1_S4096x4x4x1_S4096x4x4x1_S4096x4x4x3_d3) (ix3 i j k)
      = T (ix3 k a b) := by
  have hw : ∀ d : Fin 4, Scalar.select (IntOp.cmpi .slt (BitVec.ofNat 32 d) 0#32)
      (IntOp.addi (BitVec.ofNat 32 d) 4#32) (BitVec.ofNat 32 d) = BitVec.ofNat 32 d := by decide
  have hm : ∀ d : Fin 4, min (BitVec.ofNat 32 d).toInt.toNat 3 = d := by decide
  rw [gatherTriple_apply]
  generalize hcc : concatenate S4096x4x4x3 3 _ _ = w
  have h0 : w (ix4 i j k 0) = BitVec.ofNat 32 k := by
    rw [← hcc]
    pointwise [val_main_v70, val_main_v69, val_main_v58, val_main_v57, val_main_v56, val_main_c_15, val_main_v55,
      val_main_v54, val_main_c_14, val_main_v51, val_main_v50]
    exact hw k
  have h1 : w (ix4 i j k 1) = BitVec.ofNat 32 a := by
    rw [← hcc]
    pointwise [val_main_v61, val_main_c_17, val_main_v59, val_main_c_16]
    rw [hp]
    exact hw a
  have h2 : w (ix4 i j k 2) = BitVec.ofNat 32 b := by
    rw [← hcc]
    pointwise [val_main_v61, val_main_c_17, val_main_v59, val_main_c_16]
    rw [hq]
    exact hw b
  simp only [h0, h1, h2, hm]

variable (x : FVec Ideal S4096x64x4 .f32) (W₁ : FVec Ideal S100x256 .f32) (b₁ : FVec Ideal S100 .f32)
  (W₂ : FVec Ideal S25x100 .f32) (b₂ : FVec Ideal S25 .f32) (W₃ : FVec Ideal S16x25 .f32) (b₃ : FVec Ideal S16 .f32)
  (T : FVec Ideal S4x4x4 .f32) (i : Fin 4096) (j k : Fin 4)

/-- The table's entry at the state before and, as its column, the state itself. -/
theorem ref_lookup0 : (val_main_v74 (F := Ideal) x W₁ b₁ W₂ b₂ W₃ b₃ T : FVec Ideal S4096x4x4 .f32) (ix3 i j k)
    = T (ix3 k (stateBefore x W₁ b₁ W₂ b₂ W₃ b₃ i j k) (column (stateBefore x W₁ b₁ W₂ b₂ W₃ b₃ i j k) (stateHere x W₁ b₁ W₂ b₂ W₃ b₃ i j k) 0)) :=
  tableAt_apply T (val_main_v52 (F := Ideal) x W₁ b₁ W₂ b₂ W₃ b₃) (val_main_v53 (F := Ideal) x W₁ b₁ W₂ b₂ W₃ b₃) i j k _ _
    (ref_word x W₁ b₁ W₂ b₂ W₃ b₃ i j k) (ref_column0 x W₁ b₁ W₂ b₂ W₃ b₃ i j k)

/-- The table's entry at the state before and, as its column, one above the state before. -/
theorem ref_lookup1 : (val_main_v96 (F := Ideal) x W₁ b₁ W₂ b₂ W₃ b₃ T : FVec Ideal S4096x4x4 .f32) (ix3 i j k)
    = T (ix3 k (stateBefore x W₁ b₁ W₂ b₂ W₃ b₃ i j k) (column (stateBefore x W₁ b₁ W₂ b₂ W₃ b₃ i j k) (stateHere x W₁ b₁ W₂ b₂ W₃ b₃ i j k) 1)) :=
  tableAt_apply T (val_main_v52 (F := Ideal) x W₁ b₁ W₂ b₂ W₃ b₃) (val_main_v75 (F := Ideal) x W₁ b₁ W₂ b₂ W₃ b₃) i j k _ _
    (ref_word x W₁ b₁ W₂ b₂ W₃ b₃ i j k) (ref_column1 x W₁ b₁ W₂ b₂ W₃ b₃ i j k _)

/-- The table's entry at the state before and, as its column, one below the state before. -/
theorem ref_lookup2 : (val_main_v118 (F := Ideal) x W₁ b₁ W₂ b₂ W₃ b₃ T : FVec Ideal S4096x4x4 .f32) (ix3 i j k)
    = T (ix3 k (stateBefore x W₁ b₁ W₂ b₂ W₃ b₃ i j k) (column (stateBefore x W₁ b₁ W₂ b₂ W₃ b₃ i j k) (stateHere x W₁ b₁ W₂ b₂ W₃ b₃ i j k) 2)) :=
  tableAt_apply T (val_main_v52 (F := Ideal) x W₁ b₁ W₂ b₂ W₃ b₃) (val_main_v97 (F := Ideal) x W₁ b₁ W₂ b₂ W₃ b₃) i j k _ _
    (ref_word x W₁ b₁ W₂ b₂ W₃ b₃ i j k) (ref_column2 x W₁ b₁ W₂ b₂ W₃ b₃ i j k _)

/-- The table's entry at the state before and, as its column, two above the state before. -/
theorem ref_lookup3 : (val_main_v140 (F := Ideal) x W₁ b₁ W₂ b₂ W₃ b₃ T : FVec Ideal S4096x4x4 .f32) (ix3 i j k)
    = T (ix3 k (stateBefore x W₁ b₁ W₂ b₂ W₃ b₃ i j k) (column (stateBefore x W₁ b₁ W₂ b₂ W₃ b₃ i j k) (stateHere x W₁ b₁ W₂ b₂ W₃ b₃ i j k) 3)) :=
  tableAt_apply T (val_main_v52 (F := Ideal) x W₁ b₁ W₂ b₂ W₃ b₃) (val_main_v119 (F := Ideal) x W₁ b₁ W₂ b₂ W₃ b₃) i j k _ _
    (ref_word x W₁ b₁ W₂ b₂ W₃ b₃ i j k) (ref_column3 x W₁ b₁ W₂ b₂ W₃ b₃ i j k _)

/-- The table's entry at the state before and, as its column, two below the state before. -/
theorem ref_lookup4 : (val_main_v162 (F := Ideal) x W₁ b₁ W₂ b₂ W₃ b₃ T : FVec Ideal S4096x4x4 .f32) (ix3 i j k)
    = T (ix3 k (stateBefore x W₁ b₁ W₂ b₂ W₃ b₃ i j k) (column (stateBefore x W₁ b₁ W₂ b₂ W₃ b₃ i j k) (stateHere x W₁ b₁ W₂ b₂ W₃ b₃ i j k) 4)) :=
  tableAt_apply T (val_main_v52 (F := Ideal) x W₁ b₁ W₂ b₂ W₃ b₃) (val_main_v141 (F := Ideal) x W₁ b₁ W₂ b₂ W₃ b₃) i j k _ _
    (ref_word x W₁ b₁ W₂ b₂ W₃ b₃ i j k) (ref_column4 x W₁ b₁ W₂ b₂ W₃ b₃ i j k _)

end Cert.Fused

end
-- ==== Proof.RefFeatures.lean ====
module

public import proofs.«01_k».proof.Proof.RefLookup

@[expose] public section

/-! # The reference's features

The reference lays the value of each entry and its five lookups side by side, and makes the infinite ones finite. -/

namespace Cert.Fused

open Cert.ReferenceIdeal Cert.ReferenceIdeal.Gen Cert.ReferenceIdeal.Read Idealize.ShloMosaic Idealize.ShloMosaic.TcCoe

set_option maxRecDepth 65536

variable (x : FVec Ideal S4096x64x4 .f32) (W₁ : FVec Ideal S100x256 .f32) (b₁ : FVec Ideal S100 .f32)
  (W₂ : FVec Ideal S25x100 .f32) (b₂ : FVec Ideal S25 .f32) (W₃ : FVec Ideal S16x25 .f32) (b₃ : FVec Ideal S16 .f32)
  (T : FVec Ideal S4x4x4 .f32) (i : Fin 4096) (j : Fin 4)

/-- An entry of the last axis of the six arrays laid side by side is the entry of one of them. -/
theorem stacked (k : Fin 4) (q : Fin 6) (l : Fin 24) (hl : (l : ℕ) = 6 * k + q) :
    (val_main_v170 (F := Ideal) x W₁ b₁ W₂ b₂ W₃ b₃ T : FVec Ideal S4096x4x24 .f32) (ix3 i j l)
      = ![(val_main_v18 (F := Ideal) x W₁ b₁ W₂ b₂ W₃ b₃ : FVec Ideal S4096x4x4 .f32) (ix3 i j k),
          (val_main_v74 (F := Ideal) x W₁ b₁ W₂ b₂ W₃ b₃ T : FVec Ideal S4096x4x4 .f32) (ix3 i j k),
          (val_main_v96 (F := Ideal) x W₁ b₁ W₂ b₂ W₃ b₃ T : FVec Ideal S4096x4x4 .f32) (ix3 i j k),
          (val_main_v118 (F := Ideal) x W₁ b₁ W₂ b₂ W₃ b₃ T : FVec Ideal S4096x4x4 .f32) (ix3 i j k),
          (val_main_v140 (F := Ideal) x W₁ b₁ W₂ b₂ W₃ b₃ T : FVec Ideal S4096x4x4 .f32) (ix3 i j k),
          (val_main_v162 (F := Ideal) x W₁ b₁ W₂ b₂ W₃ b₃ T : FVec Ideal S4096x4x4 .f32) (ix3 i j k)] q := by
  unfold val_main_v170 val_main_v169 val_main_v163 val_main_v164 val_main_v165 val_main_v166 val_main_v167 val_main_v168
  generalize val_main_v18 (F := Ideal) x W₁ b₁ W₂ b₂ W₃ b₃ = y0
  generalize val_main_v74 (F := Ideal) x W₁ b₁ W₂ b₂ W₃ b₃ T = y1
  generalize val_main_v96 (F := Ideal) x W₁ b₁ W₂ b₂ W₃ b₃ T = y2
  generalize val_main_v118 (F := Ideal) x W₁ b₁ W₂ b₂ W₃ b₃ T = y3
  generalize val_main_v140 (F := Ideal) x W₁ b₁ W₂ b₂ W₃ b₃ T = y4
  generalize val_main_v162 (F := Ideal) x W₁ b₁ W₂ b₂ W₃ b₃ T = y5
  have h₁ : (l : ℕ) % 6 = q := by omega
  have h₂ : (⟨(l : ℕ) / 6, by omega⟩ : Fin 4) = k := Fin.ext (by simp only []; omega)
  pointwise []
  simp only [h₁, h₂]
  fin_cases q <;> rfl

/-- A number within the finite range, or infinite, becomes the nearest finite number. -/
theorem tamed (k : Fin 24) (y : EReal)
    (h : (val_main_v170 (F := Ideal) x W₁ b₁ W₂ b₂ W₃ b₃ T : FVec Ideal S4096x4x24 .f32) (ix3 i j k) = y) :
    (val_main_v171 (F := Ideal) x W₁ b₁ W₂ b₂ W₃ b₃ T : FVec Ideal S4096x4x24 .f32) (ix3 i j k)
      = if y = ⊤ then fmax else if y = ⊥ then -fmax else y := by
  unfold val_main_v171 val_main_call6_v6 val_main_call6_v4 val_main_call6_v3 val_main_call6_v1 val_main_call6_v0
  generalize val_main_v170 (F := Ideal) x W₁ b₁ W₂ b₂ W₃ b₃ T = w at h ⊢
  pointwise [val_main_call6_call2_v0, val_main_call6_cst_3, val_main_call6_v5, val_main_call6_cst_2,
    val_main_call6_call1_v0, val_main_call6_cst_1, val_main_call6_v2, val_main_call6_cst_0,
    val_main_call6_call0_v0, val_main_call6_cst]
  have hf : fmax ≠ ⊥ := EReal.coe_ne_bot _
  rw [h, bits_fmax, bits_neg_fmax, bits_inf, bits_neg_inf]
  by_cases ht : y = ⊤ <;> simp [ht, hf]

/-- Of a number within the finite range, or infinite, the nearest finite number is the confined one. -/
theorem value_tamed (y : EReal) (h : y = ⊤ ∨ y = ⊥ ∨ confine y = y) :
    (if y = ⊤ then fmax else if y = ⊥ then -fmax else y) = confine y := by
  have h₀ : -fmax ≤ fmax := by
    unfold fmax
    rw [← EReal.coe_neg]
    exact EReal.coe_le_coe_iff.2 (by norm_num)
  rcases h with rfl | rfl | h
  · simp [confine]
  · simp [confine, h₀]
  · have ht : y ≠ ⊤ := fun e => by rw [e] at h; simp [confine, fmax] at h
    have hb : y ≠ ⊥ := fun e => by
      rw [e] at h
      simp only [confine, bot_le, max_eq_left, min_eq_right h₀] at h
      exact EReal.coe_ne_bot _ ((EReal.coe_neg _).trans h)
    rw [if_neg ht, if_neg hb, h]

/-- The reference's features are `features`. -/
theorem ref_features
    (hf : ∀ c, firstRow x W₁ b₁ W₂ b₂ W₃ b₃ i c = ⊤ ∨ firstRow x W₁ b₁ W₂ b₂ W₃ b₃ i c = ⊥ ∨
      confine (firstRow x W₁ b₁ W₂ b₂ W₃ b₃ i c) = firstRow x W₁ b₁ W₂ b₂ W₃ b₃ i c)
    (hT : ∀ a b c, T (ix3 a b c) ≠ ⊤ ∧ T (ix3 a b c) ≠ ⊥) (l : Fin 24) :
    (val_main_v171 (F := Ideal) x W₁ b₁ W₂ b₂ W₃ b₃ T : FVec Ideal S4096x4x24 .f32) (ix3 i j l)
      = features (fun k a b => T (ix3 k a b)) (inputRow x i) (firstRow x W₁ b₁ W₂ b₂ W₃ b₃ i) j l := by
  have hfin : ∀ a b c, (if T (ix3 a b c) = ⊤ then fmax else if T (ix3 a b c) = ⊥ then -fmax else T (ix3 a b c))
      = T (ix3 a b c) := fun a b c => by rw [if_neg (hT a b c).1, if_neg (hT a b c).2]
  obtain ⟨k, q, hl⟩ : ∃ (k : Fin 4) (q : Fin 6), (l : ℕ) = 6 * k + q :=
    ⟨⟨l / 6, by omega⟩, ⟨l % 6, by omega⟩, by simp only []; omega⟩
  have hc : (⟨4 * (j : ℕ) + (l : ℕ) / 6, by omega⟩ : Fin 16) = ⟨4 * j + k, by omega⟩ := Fin.ext (by simp only []; omega)
  have hq : (⟨(l : ℕ) % 6, by omega⟩ : Fin 6) = q := Fin.ext (by simp only []; omega)
  have hk : (⟨(4 * (j : ℕ) + (k : ℕ)) % 4, by omega⟩ : Fin 4) = k := Fin.ext (by simp only []; omega)
  rw [tamed x W₁ b₁ W₂ b₂ W₃ b₃ T i j l _ (stacked x W₁ b₁ W₂ b₂ W₃ b₃ T i j k q l hl), ref_entry, ref_lookup0,
    ref_lookup1, ref_lookup2, ref_lookup3, ref_lookup4]
  unfold features feature
  rw [hc, hq, hk]
  match q with
  | 0 => exact value_tamed _ (hf _)
  | 1 => exact hfin _ _ _
  | 2 => exact hfin _ _ _
  | 3 => exact hfin _ _ _
  | 4 => exact hfin _ _ _
  | 5 => exact hfin _ _ _

end Cert.Fused

end
-- ==== Proof.Range.lean ====
module

public import proofs.«01_k».proof.Proof.Whole
public import proofs.«01_k».proof.Proof.Consts
public import proofs.«01_k».proof.Proof.Gen.Pre_float_range
public import Idealize.ShloMosaic.Lib.StableHlo.Predicate

@[expose] public section

/-! # What the precondition says

Each of the first net's outputs is within the finite range of the 32-bit format or infinite, and the table's entries are
finite. -/

namespace Cert.Fused

open Cert.Pre_float_range Cert.Pre_float_range.Gen Idealize.ShloMosaic Idealize.ShloMosaic.TcCoe

set_option maxRecDepth 65536

variable (x : FVec Ideal S4096x64x4 .f32) (W₁ : FVec Ideal S100x256 .f32) (b₁ : FVec Ideal S100 .f32)
  (W₂ : FVec Ideal S25x100 .f32) (b₂ : FVec Ideal S25 .f32) (W₃ : FVec Ideal S16x25 .f32) (b₃ : FVec Ideal S16 .f32)
  (V₁ : FVec Ideal S20x24 .f32) (c₁ : FVec Ideal S20 .f32) (V₂ : FVec Ideal S10x20 .f32) (c₂ : FVec Ideal S10 .f32)
  (V₃ : FVec Ideal S4x10 .f32) (c₃ : FVec Ideal S4 .f32) (T : FVec Ideal S4x4x4 .f32)

/-- The table's entries are finite. -/
theorem table_finite (h : (fn (F := Ideal) x W₁ b₁ W₂ b₂ W₃ b₃ V₁ c₁ V₂ c₂ V₃ c₃ T).2 = fun _ => 1#1) (a b c : Fin 4) :
    T (ix3 a b c) ≠ ⊤ ∧ T (ix3 a b c) ≠ ⊥ := by
  have h := congrFun h (ix3 a b c)
  unfold fn fn_part1 at h
  dsimp only at h
  pointwise [] at h
  have h := of_decide_eq_true ((StableHlo.Predicate.ofBool_eq_one_iff _).1 h)
  rw [bits_inf, Ideal.absf_def] at h
  constructor
  · intro e
    simp [e] at h
  · intro e
    simp [e] at h

/-- Of two bits, one is set where their disjunction is. -/
theorem set_or_set (a b : BitVec 1) (h : IntOp.ori a b = 1#1) : a = 1#1 ∨ b = 1#1 := by
  revert a b
  decide

set_option maxHeartbeats 4000000 in
/-- The first net's outputs are within the finite range, or infinite. -/
theorem first_range (h : (fn (F := Ideal) x W₁ b₁ W₂ b₂ W₃ b₃ V₁ c₁ V₂ c₂ V₃ c₃ T).1 = fun _ => 1#1) (i : Fin 4096) (r : Fin 16) :
    firstRow x W₁ b₁ W₂ b₂ W₃ b₃ i r = ⊤ ∨ firstRow x W₁ b₁ W₂ b₂ W₃ b₃ i r = ⊥ ∨
      confine (firstRow x W₁ b₁ W₂ b₂ W₃ b₃ i r) = firstRow x W₁ b₁ W₂ b₂ W₃ b₃ i r := by
  have h := congrFun h (ix2 i r)
  unfold fn fn_part1 at h
  dsimp only at h
  pointwise [] at h
  have e : (∑ a, max (∑ b, max (∑ c, x (ix3 i ⟨(c : Fin 256) / 4, by omega⟩ ⟨(c : Fin 256) % 4, by omega⟩) * W₁ (ix2 b c)
      + b₁ (ix1 b)) 0 * W₂ (ix2 a b) + b₂ (ix1 a)) 0 * W₃ (ix2 r a)) + b₃ (ix1 r)
      = firstRow x W₁ b₁ W₂ b₂ W₃ b₃ i r := by
    simp only [firstRow, net, dense, relu, inputRow, mul_comm]
  rw [e] at h
  generalize firstRow x W₁ b₁ W₂ b₂ W₃ b₃ i r = y at h
  rcases set_or_set _ _ h with h | h
  · have h := of_decide_eq_true ((StableHlo.Predicate.ofBool_eq_one_iff _).1 h)
    rw [bits_fmax, Ideal.absf_def] at h
    refine Or.inr (Or.inr ?_)
    have h₁ : -fmax ≤ y := EReal.neg_le.1 (le_trans (le_max_right _ _) h)
    rw [confine, max_eq_right h₁, min_eq_right (le_trans (le_max_left _ _) h)]
  · have h := of_decide_eq_true ((StableHlo.Predicate.ofBool_eq_one_iff _).1 h)
    rw [bits_inf, Ideal.absf_def] at h
    rcases max_choice y (-y) with h' | h'
    · exact Or.inl (h'.symm.trans h)
    · exact Or.inr (Or.inl (by rw [← neg_neg y, ← h', h, EReal.neg_top]))

end Cert.Fused

end
-- ==== Proof.Agree.lean ====
module

public import proofs.«01_k».proof.Proof.Array
public import proofs.«01_k».proof.Proof.RefFeatures
public import proofs.«01_k».proof.Proof.Range

@[expose] public section

/-! # The reference's result is the kernel's

Under the precondition the reference's result is `spec`, which is what the kernel leaves. -/

namespace Cert.Fused

open Idealize.ShloMosaic Idealize.ShloMosaic.TcCoe

set_option maxRecDepth 65536

/-- The reference's result is `spec`, entry by entry, where the first net's outputs are within range or infinite and the
    table's entries are finite. -/
theorem ref_result (x : FVec Ideal ⟨3, ![4096, 64, 4]⟩ .f32) (W₁ : FVec Ideal ⟨2, ![100, 256]⟩ .f32) (b₁ : FVec Ideal ⟨1, ![100]⟩ .f32)
    (W₂ : FVec Ideal ⟨2, ![25, 100]⟩ .f32) (b₂ : FVec Ideal ⟨1, ![25]⟩ .f32) (W₃ : FVec Ideal ⟨2, ![16, 25]⟩ .f32) (b₃ : FVec Ideal ⟨1, ![16]⟩ .f32)
    (V₁ : FVec Ideal ⟨2, ![20, 24]⟩ .f32) (c₁ : FVec Ideal ⟨1, ![20]⟩ .f32) (V₂ : FVec Ideal ⟨2, ![10, 20]⟩ .f32) (c₂ : FVec Ideal ⟨1, ![10]⟩ .f32)
    (V₃ : FVec Ideal ⟨2, ![4, 10]⟩ .f32) (c₃ : FVec Ideal ⟨1, ![4]⟩ .f32) (T : FVec Ideal ⟨3, ![4, 4, 4]⟩ .f32)
    (hf : ∀ i c, firstRow x W₁ b₁ W₂ b₂ W₃ b₃ i c = ⊤ ∨ firstRow x W₁ b₁ W₂ b₂ W₃ b₃ i c = ⊥ ∨
      confine (firstRow x W₁ b₁ W₂ b₂ W₃ b₃ i c) = firstRow x W₁ b₁ W₂ b₂ W₃ b₃ i c)
    (hT : ∀ a b c, T (ix3 a b c) ≠ ⊤ ∧ T (ix3 a b c) ≠ ⊥) (i : (⟨2, ![4096, 16]⟩ : Shape).Idx) :
    Cert.ReferenceIdeal.Read.val_main_v189 (F := Ideal) x W₁ b₁ W₂ b₂ W₃ b₃ V₁ c₁ V₂ c₂ V₃ c₃ T i
      = spec x W₁ b₁ W₂ b₂ W₃ b₃ V₁ c₁ V₂ c₂ V₃ c₃ T (i 0) ⟨(i 1 : ℕ) / 4, by have := ValueIdx.idx2_lt1 i; omega⟩
          ⟨(i 1 : ℕ) % 4, by omega⟩ := by
  have hi : i = (ix2 (i 0) ⟨4 * ((i 1 : ℕ) / 4) + (i 1 : ℕ) % 4, by have := ValueIdx.idx2_lt1 i; omega⟩ :
      (⟨2, ![4096, 16]⟩ : Shape).Idx) := by
    funext a
    match a with
    | ⟨0, _⟩ => rfl
    | ⟨1, _⟩ => exact Fin.ext (Nat.div_add_mod _ 4).symm
  conv_lhs => rw [hi]
  refine (ref_second x W₁ b₁ W₂ b₂ W₃ b₃ V₁ c₁ V₂ c₂ V₃ c₃ T (i 0)
    ⟨(i 1 : ℕ) / 4, by have := ValueIdx.idx2_lt1 i; omega⟩ ⟨(i 1 : ℕ) % 4, by omega⟩).trans ?_
  unfold spec
  congr 1
  funext l
  exact ref_features x W₁ b₁ W₂ b₂ W₃ b₃ T (i 0) _ (hf (i 0)) hT l

end Cert.Fused

end
-- ==== Proof.lean ====
module

public import proofs.«01_k».proof.Defs
public import proofs.«01_k».proof.Proof.Agree
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim

@[expose] public section

/-! # The claim

The frames are the programs' runs, read at the arguments. The value claim compares two runs: the kernel leaves `spec`,
and under the precondition the reference's result is `spec` of the same arguments. -/

set_option maxRecDepth 65536

namespace Cert.Proof

open Idealize.ShloMosaic Idealize.ShloMosaic.StableHlo Idealize.SL.Sem

/-- Whatever is known of the reference's final states, its counters end at zero too: it has none. -/
theorem reference_runs (m : (ℓ : Loc ReferenceIdeal.nD ReferenceIdeal.τ ReferenceIdeal.sig) → Buf (Elt Ideal) ℓ)
    (g : Dev ReferenceIdeal.nD → PrngReg) (Q : PUnit × MemSt ReferenceIdeal.nD ReferenceIdeal.τ ReferenceIdeal.sig (Elt Ideal) → Prop)
    (h : θ_run (ReferenceIdeal.defs (F := Ideal)) (onTc (τ := ReferenceIdeal.τ) (ReferenceIdeal.main (F := Ideal)))
      ⟨m, fun _ => 0, g⟩ Q) :
    θ_run (ReferenceIdeal.defs (F := Ideal)) (onTc (τ := ReferenceIdeal.τ) (ReferenceIdeal.main (F := Ideal)))
      ⟨m, fun _ => 0, g⟩ fun r => Q r ∧ r.2.sem = fun _ => 0 :=
  (θ_run _ _ _).mono (fun r hr => ⟨hr, sem_eq_zero_of_no_sems (by decide) r.2⟩) h

/-- The reference's frame. -/
theorem reference_frame : Cert.quiescent_ReferenceIdeal := fun m g _ =>
  reference_runs m g _ ((θ_run _ _ _).mono (fun _ h c => (h c).2) (ReferenceIdeal.Value.run (F := Ideal) m g))

/-- Under the precondition the two results are equal, on any arguments. -/
theorem value : Cert.algebraic_KernelIdeal_ReferenceIdeal_pre_float_range := by
  intro m g m' g' hpre hagree
  refine ⟨fun c => Fused.result m c, ?_, ?_⟩
  · refine (θ_run _ _ _).mono (fun r h c => ?_) (KernelIdeal.Value.run_blocks (F := Ideal) m g)
    obtain ⟨h₀, h₁⟩ := h c
    exact ⟨h₀.trans (Fused.final m c), h₁⟩
  · refine (θ_run _ _ _).mono (fun r h c => ?_) (ReferenceIdeal.Value.run (F := Ideal) m' g')
    obtain ⟨h₀, h₁⟩ := h c
    refine ⟨(h₀.trans (ReferenceIdeal.Read.val_main_v189_eq (launchContents m' c))).trans ?_, h₁⟩
    obtain ⟨e₀, e₁, e₂, e₃, e₄, e₅, e₆, e₇, e₈, e₉, e₁₀, e₁₁, e₁₂, e₁₃⟩ := hagree c
    simp only [launchContents_devRef, e₀, e₁, e₂, e₃, e₄, e₅, e₆, e₇, e₈, e₉, e₁₀, e₁₁, e₁₂, e₁₃]
    obtain ⟨p₁, p₂⟩ := hpre c
    funext i
    exact Fused.ref_result _ _ _ _ _ _ _ _ _ _ _ _ _ _ (Fused.first_range _ _ _ _ _ _ _ _ _ _ _ _ _ _ p₁)
      (Fused.table_finite _ _ _ _ _ _ _ _ _ _ _ _ _ _ p₂) i

/-- Everything the certificate claims. -/
theorem claim : Cert.Claim :=
  ⟨Kernel.Gen.facts, KernelIdeal.Gen.facts, ReferenceIdeal.Gen.facts, Pre_float_range.Gen.facts,
    fun m g _ => Kernel.Gen.frame m g, fun m g _ => KernelIdeal.Gen.frame m g, fun m g _ => KernelIdeal.Gen.frame m g,
    reference_frame, fun m g _ => reference_frame m g trivial, trivial, value⟩

end Cert.Proof

end
